-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4x1024x1024 : Shape := ⟨3, ![4, 1024, 1024]⟩
abbrev S8x128 : Shape := ⟨2, ![8, 128]⟩
abbrev S4x8x128 : Shape := ⟨3, ![4, 8, 128]⟩
abbrev S3x2 : Shape := ⟨2, ![3, 2]⟩
abbrev S3 : Shape := ⟨1, ![3]⟩
abbrev S_ : Shape := ⟨0, ![]⟩
abbrev S1024x1024 : Shape := ⟨2, ![1024, 1024]⟩
abbrev S1024x512 : Shape := ⟨2, ![1024, 512]⟩
abbrev S1x1024x512 : Shape := ⟨3, ![1, 1024, 512]⟩
abbrev S1x1 : Shape := ⟨2, ![1, 1]⟩
abbrev S1x1024x1024 : Shape := ⟨3, ![1, 1024, 1024]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x2048, .f32⟩
  | .local _ .vmem, ⟨0, _⟩ => ⟨S4096x1024, .bf16⟩
  | .local _ .vmem, ⟨1, _⟩ => ⟨S1024x2048, .bf16⟩
  | .local _ .vmem, ⟨2, _⟩ => ⟨S1024x2048, .f32⟩
  | .local _ .vmem, ⟨3, _⟩ => ⟨S4x1024x1024, .bf16⟩
  | .local _ .vmem, ⟨4, _⟩ => ⟨S4x1024x1024, .bf16⟩
  | .local _ .vmem, ⟨5, _⟩ => ⟨S8x128, .f32⟩
  | .local _ .vmem, ⟨6, _⟩ => ⟨S4x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v52 : BitVec 32 := Scalar.muli v40 c1024_i32
  let v53 : Index := Scalar.indexCast v52
  let c0 : Index := 0#32
  ![v53.toNat, 0]
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v63 : BitVec 32 := Scalar.muli v24 c1_i32_42
  let v64 : BitVec 32 := Scalar.addi c0_i32_43 v63
  v64.toNat
def k0_off2 (d0 : Dev nD) (c1_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.addi v2 c1_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c1024_i32_48 : BitVec 32 := 1024#32
  let v73 : BitVec 32 := Scalar.muli v51 c1024_i32_48
  let v74 : Index := Scalar.indexCast v73
  let c0_49 : Index := 0#32
  ![v74.toNat, 0]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v84 : BitVec 32 := Scalar.muli v13 c1_i32_61
  let v85 : BitVec 32 := Scalar.addi c0_i32_62 v84
  v85.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_80 : BitVec 32 := 1#32
  let v105 : BitVec 32 := Scalar.muli v24 c1_i32_80
  let v106 : BitVec 32 := Scalar.addi c0_i32_81 v105
  v106.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_98 : BitVec 32 := 1#32
  let v126 : BitVec 32 := Scalar.muli v13 c1_i32_98
  let v127 : BitVec 32 := Scalar.addi c0_i32_99 v126
  v127.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_140 : BitVec 32 := 1#32
  let v172 : BitVec 32 := Scalar.muli v24 c1_i32_140
  let v173 : BitVec 32 := Scalar.addi c0_i32_141 v172
  v173.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_170 : BitVec 32 := 1#32
  let v200 : BitVec 32 := Scalar.muli v13 c1_i32_170
  let v201 : BitVec 32 := Scalar.addi c0_i32_171 v200
  v201.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_200 : BitVec 32 := 1#32
  let v228 : BitVec 32 := Scalar.muli v24 c1_i32_200
  let v229 : BitVec 32 := Scalar.addi c0_i32_201 v228
  v229.toNat
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_230 : BitVec 32 := 1#32
  let v256 : BitVec 32 := Scalar.muli v13 c1_i32_230
  let v257 : BitVec 32 := Scalar.addi c0_i32_231 v256
  v257.toNat
def k0_dev11 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_283 : BitVec 32 := 1#32
  let v319 : BitVec 32 := Scalar.muli v24 c1_i32_283
  let v320 : BitVec 32 := Scalar.addi c0_i32_284 v319
  v320.toNat
def k0_dev12 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_313 : BitVec 32 := 1#32
  let v346 : BitVec 32 := Scalar.muli v13 c1_i32_313
  let v347 : BitVec 32 := Scalar.addi c0_i32_314 v346
  v347.toNat
def k0_dev13 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_343 : BitVec 32 := 1#32
  let v373 : BitVec 32 := Scalar.muli v24 c1_i32_343
  let v374 : BitVec 32 := Scalar.addi c0_i32_344 v373
  v374.toNat
def k0_dev14 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_373 : BitVec 32 := 1#32
  let v400 : BitVec 32 := Scalar.muli v13 c1_i32_373
  let v401 : BitVec 32 := Scalar.addi c0_i32_374 v400
  v401.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_379 : BitVec 32 := 1024#32
  let v410 : BitVec 32 := Scalar.muli v2 c1024_i32_379
  let v411 : Index := Scalar.indexCast v410
  let c0_380 : Index := 0#32
  ![v411.toNat, 0]
def k0_dev15 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_575 : BitVec 32 := 1#32
  let v548 : BitVec 32 := Scalar.addi v2 c1_i32_575
  let c4_i32_576 : BitVec 32 := 4#32
  let c0_i32_577 : BitVec 32 := 0#32
  let v549 : BitVec 1 := Scalar.cmpi .eq c4_i32_576 c0_i32_577
  let c1_i32_578 : BitVec 32 := 1#32
  let v550 : BitVec 32 := Scalar.select v549 c1_i32_578 c4_i32_576
  let v551 : BitVec 32 := Scalar.remsi v548 v550
  let c0_i32_580 : BitVec 32 := 0#32
  let v553 : BitVec 1 := Scalar.cmpi .slt v551 c0_i32_580
  let c0_i32_581 : BitVec 32 := 0#32
  let v554 : BitVec 1 := Scalar.cmpi .slt v550 c0_i32_581
  let v555 : BitVec 1 := Scalar.xori v553 v554
  let c0_i32_579 : BitVec 32 := 0#32
  let v552 : BitVec 1 := Scalar.cmpi .ne v551 c0_i32_579
  let v556 : BitVec 1 := Scalar.andi v555 v552
  let v557 : BitVec 32 := Scalar.addi v551 v550
  let v558 : BitVec 32 := Scalar.select v556 v557 v551
  let c1_i32_585 : BitVec 32 := 1#32
  let v559 : BitVec 32 := Scalar.muli v558 c1_i32_585
  let v560 : BitVec 32 := Scalar.addi c0_i32_586 v559
  v560.toNat
def k0_dev16 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_589 : BitVec 32 := 2#32
  let v567 : BitVec 32 := Scalar.addi v2 c2_i32_589
  let c4_i32_590 : BitVec 32 := 4#32
  let c0_i32_591 : BitVec 32 := 0#32
  let v568 : BitVec 1 := Scalar.cmpi .eq c4_i32_590 c0_i32_591
  let c1_i32_592 : BitVec 32 := 1#32
  let v569 : BitVec 32 := Scalar.select v568 c1_i32_592 c4_i32_590
  let v570 : BitVec 32 := Scalar.remsi v567 v569
  let c0_i32_594 : BitVec 32 := 0#32
  let v572 : BitVec 1 := Scalar.cmpi .slt v570 c0_i32_594
  let c0_i32_595 : BitVec 32 := 0#32
  let v573 : BitVec 1 := Scalar.cmpi .slt v569 c0_i32_595
  let v574 : BitVec 1 := Scalar.xori v572 v573
  let c0_i32_593 : BitVec 32 := 0#32
  let v571 : BitVec 1 := Scalar.cmpi .ne v570 c0_i32_593
  let v575 : BitVec 1 := Scalar.andi v574 v571
  let v576 : BitVec 32 := Scalar.addi v570 v569
  let v577 : BitVec 32 := Scalar.select v575 v576 v570
  let c1_i32_599 : BitVec 32 := 1#32
  let v578 : BitVec 32 := Scalar.muli v577 c1_i32_599
  let v579 : BitVec 32 := Scalar.addi c0_i32_600 v578
  v579.toNat
def k0_dev17 (d0 : Dev nD) : Nat :=
  let c0_i32_614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_603 : BitVec 32 := 3#32
  let v586 : BitVec 32 := Scalar.addi v2 c3_i32_603
  let c4_i32_604 : BitVec 32 := 4#32
  let c0_i32_605 : BitVec 32 := 0#32
  let v587 : BitVec 1 := Scalar.cmpi .eq c4_i32_604 c0_i32_605
  let c1_i32_606 : BitVec 32 := 1#32
  let v588 : BitVec 32 := Scalar.select v587 c1_i32_606 c4_i32_604
  let v589 : BitVec 32 := Scalar.remsi v586 v588
  let c0_i32_608 : BitVec 32 := 0#32
  let v591 : BitVec 1 := Scalar.cmpi .slt v589 c0_i32_608
  let c0_i32_609 : BitVec 32 := 0#32
  let v592 : BitVec 1 := Scalar.cmpi .slt v588 c0_i32_609
  let v593 : BitVec 1 := Scalar.xori v591 v592
  let c0_i32_607 : BitVec 32 := 0#32
  let v590 : BitVec 1 := Scalar.cmpi .ne v589 c0_i32_607
  let v594 : BitVec 1 := Scalar.andi v593 v590
  let v595 : BitVec 32 := Scalar.addi v589 v588
  let v596 : BitVec 32 := Scalar.select v594 v595 v589
  let c1_i32_613 : BitVec 32 := 1#32
  let v597 : BitVec 32 := Scalar.muli v596 c1_i32_613
  let v598 : BitVec 32 := Scalar.addi c0_i32_614 v597
  v598.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Proto.lean ====
/-
# The protocol of the kernel: cells, contents, schedule

Four devices stand in a ring. Each first meets both neighbours on the barrier semaphore, then runs two rings at
once, one to the right and one to the left, three hops each and two column tiles per hop. A hop's tile is a copy
from a slot of the sender's ring buffer to a slot of the receiver's; the slot it lands in is added into and sent on.
After the last hop the devices exchange one number each, everybody to everybody, in an 8 by 128 block.

Per device there are 31 semaphore cells, each used for one round:

* the barrier cell, waited for 2 units: one from each neighbour. The unit from the RIGHT neighbour hands over that
  neighbour's three landing slots of the right ring and its maximum slot 1; the unit from the LEFT neighbour hands over
  its landing slots of the left ring and its maximum slots 3 and 2. Slot 2 belongs to the device two away: it is passed
  on with the first tile of the right ring.
* a send and a receive cell per direction, hop and tile. The receive cell's landing hands over the slot holding exactly
  the value its sender had stored; the send cell gives the source slot back.
* a send and a receive cell per distance for the exchange of the maxima.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Ring
public import Idealize.ShloMosaic.Lib.ViewIndex
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the schedule, beside the pipeline's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the run starts from. -/
def s₀ : MemSt nD τ sig (Elt F) := ⟨m, fun _ => 0, ρ⟩

/-! ## The ring -/

/-- The device `o` places to the right. -/
def sh (o : ℕ) (c : Dev nD) : Dev nD := ⟨(c.val + o) % 4, Nat.mod_lt _ (by decide)⟩
abbrev nxt (c : Dev nD) : Dev nD := sh 1 c
abbrev prv (c : Dev nD) : Dev nD := sh 3 c

/-- Where direction `d` sends to (`false` right, `true` left), and where it receives from. -/
def target (d : Bool) (c : Dev nD) : Dev nD := if d then prv c else nxt c
def source (d : Bool) (c : Dev nD) : Dev nD := if d then nxt c else prv c

theorem source_target (d : Bool) (c : Dev nD) : source d (target d c) = c := by revert d c; decide
theorem target_source (d : Bool) (c : Dev nD) : target d (source d c) = c := by revert d c; decide
theorem prv_nxt (c : Dev nD) : prv (nxt c) = c := by revert c; decide
theorem nxt_prv (c : Dev nD) : nxt (prv c) = c := by revert c; decide

/-! ## The cells -/

/-- The transfer cells of a device: of a ring (receiving or sending, direction, hop, tile), of the exchange of the
    maxima (receiving or sending, distance less one). -/
inductive Kd
  | hop (recv : Bool) (d : Bool) (s : Fin 3) (t : Fin 2)
  | mx (recv : Bool) (o : Fin 3)
  deriving DecidableEq

def allKd : List Kd :=
  [.hop false false 0 0, .hop false false 0 1, .hop false false 1 0, .hop false false 1 1, .hop false false 2 0, .hop false false 2 1,
   .hop true false 0 0, .hop true false 0 1, .hop true false 1 0, .hop true false 1 1, .hop true false 2 0, .hop true false 2 1,
   .hop false true 0 0, .hop false true 0 1, .hop false true 1 0, .hop false true 1 1, .hop false true 2 0, .hop false true 2 1,
   .hop true true 0 0, .hop true true 0 1, .hop true true 1 0, .hop true true 1 1, .hop true true 2 0, .hop true true 2 1,
   .mx false 0, .mx false 1, .mx false 2, .mx true 0, .mx true 1, .mx true 2]
theorem mem_allKd (k : Kd) : k ∈ allKd := by
  rcases k with ⟨r, d, s, t⟩ | ⟨r, o⟩
  · revert r d s t; decide
  · revert r o; decide
instance : Fintype Kd := ⟨⟨allKd, by decide⟩, mem_allKd⟩

def semIx : Kd → ℕ
  | .hop r d s t => 3 + (if r then 6 else 0) + (if d then 12 else 0) + 2 * s.val + t.val
  | .mx r o => 27 + (if r then 3 else 0) + o.val
theorem semIx_lt (k : Kd) : semIx k < 33 := by revert k; decide
/-- The semaphore of a transfer cell. -/
def semOf (k : Kd) : DmaSem sig := ⟨semIx k, semIx_lt k⟩

/-- The transfer cell a semaphore is, if one. -/
def kdOf (q : DmaSem sig) : Option Kd := allKd.find? fun k => semIx k == q.val
theorem kdOf_semOf (k : Kd) : kdOf (semOf k) = some k := by revert k; decide
theorem semOf_inj : Function.Injective semOf := fun a b h => by
  have := congrArg kdOf h; rw [kdOf_semOf, kdOf_semOf] at this; exact Option.some.inj this

/-- The runtime's barrier semaphore. -/
abbrev barS : Sem sig := (SemArray.scalar (sig.barrier 0 rfl) : Sems sig S_).sem

/-- The cells by name: `none` the barrier, `some k` a transfer cell. -/
def locOf : Option Kd → SemLoc sig
  | none => .reg barS
  | some k => .dma (semOf k)
theorem locOf_inj : Function.Injective locOf := by
  rintro (_ | a) (_ | b) h
  · rfl
  · exact absurd h (by simp [locOf])
  · exact absurd h (by simp [locOf])
  · exact congrArg some (semOf_inj (SemLoc.dma.inj h))
abbrev cell (c : Dev nD) (k : Option Kd) : GSem nD τ sig := ((c : Thread nD τ), locOf k)
abbrev kcell (ck : Dev nD × Option Kd) : GSem nD τ sig := cell ck.1 ck.2
theorem kcell_injective : Function.Injective kcell := by
  rintro ⟨c, k⟩ ⟨c', k'⟩ h
  have h1 : c = c' := by have := congrArg (fun g : GSem nD τ sig => g.1.1) h; exact this
  have h2 : k = k' := locOf_inj (congrArg Prod.snd h)
  rw [h1, h2]

/-! ## The memrefs -/

abbrev xM : Memref sig .tc .vmem S4096x1024 .bf16 := Memref.whole cc0_stg0_0
abbrev wM : Memref sig .tc .vmem S1024x2048 .bf16 := Memref.whole cc0_stg1_0
abbrev oM : Memref sig .tc .vmem S1024x2048 .f32 := Memref.whole cc0_stg2_0
abbrev aM : Memref sig .tc .vmem S8x128 .f32 := Memref.whole cc0_scratch2
abbrev rM : Memref sig .tc .vmem S4x8x128 .f32 := Memref.whole cc0_scratch3
/-- The ring buffers: right, left. -/
def commM : Bool → Memref sig .tc .vmem S4x1024x1024 .bf16
  | false => Memref.whole cc0_scratch0
  | true => Memref.whole cc0_scratch1

/-- The first column of a tile; the slots a hop is sent from and lands in. -/
def col : Fin 2 → ℕ | 0 => 0 | 1 => 512
def srcSlot : Fin 3 → Fin 4 | 0 => 3 | 1 => 0 | 2 => 1
def dstSlot : Fin 3 → Fin 4 | 0 => 0 | 1 => 1 | 2 => 2

def soff (k : Fin 4) (t : Fin 2) : Fin 3 → ℕ := ![k.val, 0, col t]
theorem soff_inb (k : Fin 4) (t : Fin 2) : ∀ a, soff k t a + S1x1024x512.size a ≤ S4x1024x1024.size a := by
  revert k t; decide
/-- Tile `t` of slot `k`. -/
abbrev rct (k : Fin 4) (t : Fin 2) : Rect S4x1024x1024 := Rect.unit (s := S4x1024x1024) (soff k t) S1x1024x512.size (soff_inb k t)
abbrev hopM (d : Bool) (k : Fin 4) (t : Fin 2) : Memref sig .tc .vmem S1024x512 .bf16 :=
  ((commM d).slice (rct k t) (fun _ => rfl)).squeeze S1024x512 squeezes_S1x1024x512_S1024x512

theorem aoff_inb (k : Fin 4) : ∀ a, (![k.val, 0, 0] : Fin 3 → ℕ) a + S1x8x128.size a ≤ S4x8x128.size a := by revert k; decide
abbrev arct (k : Fin 4) : Rect S4x8x128 := Rect.unit (s := S4x8x128) ![k.val, 0, 0] S1x8x128.size (aoff_inb k)
/-- Slot `k` of the exchanged maxima. -/
abbrev mxM (k : Fin 4) : Memref sig .tc .vmem S8x128 .f32 :=
  (rM.slice (arct k) (fun _ => rfl)).squeeze S8x128 squeezes_S1x8x128_S8x128

def NH : ℕ := (hopM false 0 0).view.dmaCredit
def NA : ℕ := (mxM 0).view.dmaCredit
theorem NH_pos : 0 < NH := View.dmaCredit_pos _ (by decide)
theorem NA_pos : 0 < NA := View.dmaCredit_pos _ (by decide)
theorem hop_credit (d : Bool) (k : Fin 4) (t : Fin 2) : (hopM d k t).view.dmaCredit = NH := by cases d <;> rfl
theorem mx_credit (k : Fin 4) : (mxM k).view.dmaCredit = NA := rfl
theorem a_credit : aM.view.dmaCredit = NA := rfl
attribute [irreducible] NH NA

/-! ## Contents -/

/-- The device's blocks of the two operands, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Row block of `x` for the chunk after next and its two neighbours, and the columns of `w`. -/
def xA (c : Dev nD) : Vec F S1024x1024 .bf16 :=
  xM.view.readAt (Elt F) (Rect.unit (s := S4096x1024) (k0_off1 c) S1024x1024.size (k0_off1_inb c)).toLoadRect (xstg m ρ c)
def xB (c : Dev nD) : Vec F S1024x1024 .bf16 :=
  xM.view.readAt (Elt F) (Rect.unit (s := S4096x1024) (k0_off2 c 1#32) S1024x1024.size (k0_off2_inb c 0)).toLoadRect (xstg m ρ c)
def xC (c : Dev nD) : Vec F S1024x1024 .bf16 :=
  xM.view.readAt (Elt F) (Rect.unit (s := S4096x1024) (k0_off2 c 2#32) S1024x1024.size (k0_off2_inb c 1)).toLoadRect (xstg m ρ c)
def xD (c : Dev nD) : Vec F S1024x1024 .bf16 :=
  xM.view.readAt (Elt F) (Rect.unit (s := S4096x1024) (k0_off3 c) S1024x1024.size (k0_off3_inb c)).toLoadRect (xstg m ρ c)
def w0 (c : Dev nD) : Vec F S1024x512 .bf16 :=
  wM.view.readAt (Elt F) (Rect.unit (s := S1024x2048) ![0, 0] S1024x512.size inb_S1024x2048_S1024x512_0_0).toLoadRect (wstg m ρ c)
def w1 (c : Dev nD) : Vec F S1024x512 .bf16 :=
  wM.view.readAt (Elt F) (Rect.unit (s := S1024x2048) ![0, 512] S1024x512.size inb_S1024x2048_S1024x512_0_512).toLoadRect (wstg m ρ c)
def w2 (c : Dev nD) : Vec F S1024x512 .bf16 :=
  wM.view.readAt (Elt F) (Rect.unit (s := S1024x2048) ![0, 1024] S1024x512.size inb_S1024x2048_S1024x512_0_1024).toLoadRect (wstg m ρ c)
def w3 (c : Dev nD) : Vec F S1024x512 .bf16 :=
  wM.view.readAt (Elt F) (Rect.unit (s := S1024x2048) ![0, 1536] S1024x512.size inb_S1024x2048_S1024x512_0_1536).toLoadRect (wstg m ρ c)
def wL (c : Dev nD) : Vec F S1024x1024 .bf16 :=
  wM.view.readAt (Elt F) (Rect.unit (s := S1024x2048) ![0, 0] S1024x1024.size inb_S1024x2048_S1024x1024_0_0).toLoadRect (wstg m ρ c)
def wR (c : Dev nD) : Vec F S1024x1024 .bf16 :=
  wM.view.readAt (Elt F) (Rect.unit (s := S1024x2048) ![0, 1024] S1024x1024.size inb_S1024x2048_S1024x1024_0_1024).toLoadRect (wstg m ρ c)
def wW (c : Dev nD) : Vec F S1024x2048 .bf16 :=
  wM.view.readAt (Elt F) (Rect.unit (s := S1024x2048) ![0, 0] S1024x2048.size inb_S1024x2048_S1024x2048_0_0).toLoadRect (wstg m ρ c)

/-- The partial products a device adds on the way, and its own. -/
def p1 (c : Dev nD) : FVec F S1024x2048 .f32 := k0_pay6 (xC m ρ c) (wW m ρ c)
def p2a (c : Dev nD) : FVec F S1024x1024 .f32 := k0_pay11 (xB m ρ c) (wL m ρ c)
def p2b (c : Dev nD) : FVec F S1024x1024 .f32 := k0_pay12 (xA m ρ c) (wR m ρ c)
def pown (c : Dev nD) : FVec F S1024x2048 .f32 := k0_pay17 (xD m ρ c) (wW m ρ c)

/-- What device `c` sends at the first hop, direction and tile given, -/
def val0 (c : Dev nD) : Bool → Fin 2 → Vec F S1x1024x512 .bf16
  | false, 0 => k0_pay1 (xA m ρ c) (w0 m ρ c)
  | false, 1 => k0_pay3 (xA m ρ c) (w1 m ρ c)
  | true, 0 => k0_pay2 (xB m ρ c) (w2 m ρ c)
  | true, 1 => k0_pay5 (k0_pay4 (xB m ρ c) (w3 m ρ c))
/-- at the second, having received `v`, -/
def val1 (c : Dev nD) (v : Vec F S1x1024x512 .bf16) : Bool → Fin 2 → Vec F S1x1024x512 .bf16
  | false, 0 => k0_pay7 (p1 m ρ c) v
  | false, 1 => k0_pay9 (p1 m ρ c) v
  | true, 0 => k0_pay8 (p1 m ρ c) v
  | true, 1 => k0_pay10 (p1 m ρ c) v
/-- and at the third. -/
def val2 (c : Dev nD) (v : Vec F S1x1024x512 .bf16) : Bool → Fin 2 → Vec F S1x1024x512 .bf16
  | false, 0 => k0_pay13 (p2a m ρ c) v
  | false, 1 => k0_pay15 (p2a m ρ c) v
  | true, 0 => k0_pay14 (p2b m ρ c) v
  | true, 1 => k0_pay16 (p2b m ρ c) v
/-- What device `c` sends at hop `s`. -/
def hopVal (d : Bool) (s : Fin 3) (t : Fin 2) (c : Dev nD) : Vec F S1x1024x512 .bf16 :=
  match s with
  | 0 => val0 m ρ c d t
  | 1 => val1 m ρ c (val0 m ρ (source d c) d t) d t
  | 2 => val2 m ρ c (val1 m ρ (source d c) (val0 m ρ (source d (source d c)) d t) d t) d t
/-- What lands on it. -/
def landVal (d : Bool) (s : Fin 3) (t : Fin 2) (c : Dev nD) : Vec F S1x1024x512 .bf16 := hopVal m ρ d s t (source d c)

/-- Two tiles of a slot side by side. -/
def both (X0 X1 : Vec F S1x1024x512 .bf16) : Vec F S1x1024x1024 .bf16 := fun i =>
  if h : (i 2).val < 512 then X0 (fun a => match a with | 0 => i 0 | 1 => i 1 | 2 => ⟨(i 2).val, h⟩)
  else X1 (fun a => match a with | 0 => i 0 | 1 => i 1 | 2 => ⟨(i 2).val - 512, by have := (i 2).isLt; simp only [S1x1024x1024] at this; simp [S1x1024x512] at *; omega⟩)

def landBoth (d : Bool) (c : Dev nD) : Vec F S1x1024x1024 .bf16 := both (landVal m ρ d 2 0 c) (landVal m ρ d 2 1 c)

/-- The two halves of the device's chunk before quantisation, and the block of its maximum. -/
def ya (c : Dev nD) : FVec F S1024x1024 .f32 := k0_pay18 (pown m ρ c) (landBoth m ρ false c)
def yb (c : Dev nD) : FVec F S1024x1024 .f32 := k0_pay19 (pown m ρ c) (landBoth m ρ true c)
def mloc (c : Dev nD) : F .f32 := k0_pay20 (pown m ρ c) (landBoth m ρ false c) (landBoth m ρ true c)
def mval (c : Dev nD) : FVec F S8x128 .f32 := k0_pay21 (pown m ρ c) (landBoth m ρ false c) (landBoth m ρ true c)

/-- The corner of a block of a maximum, as it is read. -/
def corner (Y : Vec F S8x128 .f32) : Vec F S1x1x1 .f32 := fun _ => Y (fun a => match a with | 0 => ⟨0, by decide⟩ | 1 => ⟨0, by decide⟩)

def mA (c : Dev nD) : F .f32 := k0_pay22 (mloc m ρ c) (corner (mval m ρ (sh 3 c)))
def mB (c : Dev nD) : F .f32 := k0_pay23 (corner (mval m ρ (sh 2 c)))
def outL (c : Dev nD) : FVec F S1024x1024 .f32 := k0_pay27 (ya m ρ c) (mA m ρ c) (mB m ρ c) (corner (mval m ρ (sh 1 c)))
def outR (c : Dev nD) : FVec F S1024x1024 .f32 := k0_pay28 (yb m ρ c) (mA m ρ c) (mB m ρ c) (corner (mval m ρ (sh 1 c)))

/-- What the body leaves in the result's staging buffer: the two halves side by side. -/
def outAt (c : Dev nD) : (cc0_stg2_0 : Ref sig .tc).ty.Contents (Elt F) := fun i =>
  if h : (i 1).val < 1024 then outL m ρ c (fun a => match a with | 0 => i 0 | 1 => ⟨(i 1).val, h⟩)
  else outR m ρ c (fun a => match a with | 0 => i 0 | 1 => ⟨(i 1).val - 1024, by have : (i 1).val < 2048 := (i 1).isLt; simp only [S1024x1024]; show _ < 1024; omega⟩)

/-! ## Ownership -/

/-- Tile `t` of slot `k` of device `c`'s ring buffer `d`, holding `X`. -/
def slab (d : Bool) (k : Fin 4) (t : Fin 2) (c : Dev nD) (X : Vec F S1x1024x512 .bf16) : sProp 𝕄 :=
  iprop(∃ f : Buf (Elt F) ((hopM d k t).view.loc (c : Thread nD τ)), ⌜((commM d).access (rct k t)).read (Elt F) f = X⌝
    ∗ ((hopM d k t).view.loc (c : Thread nD τ) ↦[(hopM d k t).view.set]{fullShare} f))
def slabAny (d : Bool) (k : Fin 4) (t : Fin 2) (c : Dev nD) : sProp 𝕄 := iprop(∃ X, slab d k t c X)
/-- Slot `k` of the maxima received by `c`. -/
def mslot (k : Fin 4) (c : Dev nD) (Y : Vec F S8x128 .f32) : sProp 𝕄 :=
  iprop(∃ f : Buf (Elt F) ((mxM k).view.loc (c : Thread nD τ)), ⌜(mxM k).view.read (Elt F) f = Y⌝
    ∗ ((mxM k).view.loc (c : Thread nD τ) ↦[(mxM k).view.set]{fullShare} f))
def mslotAny (k : Fin 4) (c : Dev nD) : sProp 𝕄 := iprop(∃ Y, mslot k c Y)
/-- The block of its own maximum, at a share. -/
def asrc (q : PosShare TreeShare) (c : Dev nD) (Y : Buf (Elt F) (aM.view.loc (c : Thread nD τ))) : sProp 𝕄 :=
  aM.view.loc (c : Thread nD τ) ↦[aM.view.set]{q} Y

instance slab_storable (d k t c) (X) : BI.Storable (upEmb : UEmb _ 𝕄) (slab (F := F) d k t c X) := by unfold slab; infer_instance
instance slabAny_storable (d k t c) : BI.Storable (upEmb : UEmb _ 𝕄) (slabAny (F := F) d k t c) := by unfold slabAny; infer_instance
instance mslot_storable (k c) (X) : BI.Storable (upEmb : UEmb _ 𝕄) (mslot (F := F) k c X) := by unfold mslot; infer_instance
instance mslotAny_storable (k c) : BI.Storable (upEmb : UEmb _ 𝕄) (mslotAny (F := F) k c) := by unfold mslotAny; infer_instance
instance asrc_storable (q c) (Y) : BI.Storable (upEmb : UEmb _ 𝕄) (asrc (F := F) q c Y) := by unfold asrc; infer_instance

/-- The share of its maximum's block a device lends to each of the three copies of it. -/
def mshare : Fin 3 → PosShare TreeShare
  | 0 => fullShare.left | 1 => fullShare.right.left | 2 => fullShare.right.right

/-! ## The schedule -/

/-- The six landing slots of a ring buffer. -/
def freeSlots (d : Bool) (c : Dev nD) : sProp 𝕄 :=
  iprop(slabAny d 0 0 c ∗ slabAny d 0 1 c ∗ slabAny d 1 0 c ∗ slabAny d 1 1 c ∗ slabAny d 2 0 c ∗ slabAny d 2 1 c)
/-- What the barrier's two units hand to device `c`: from its right neighbour, from its left. -/
def barPay (c : Dev nD) : Bool → sProp 𝕄
  | true => iprop(freeSlots false (nxt c) ∗ mslotAny 1 (nxt c))
  | false => iprop(freeSlots true (prv c) ∗ mslotAny 3 (prv c) ∗ mslotAny 2 (prv c))
/-- What comes with a ring tile besides the slot: with the first one to the right, the slot of the maxima two away. -/
def extra : Bool → Fin 3 → Fin 2 → Dev nD → sProp 𝕄
  | false, 0, 0, c => mslotAny 2 (sh 2 c)
  | _, _, _, _ => iprop(emp)
/-- What a transfer cell's one duty pays. -/
def kpay (c : Dev nD) : Kd → sProp 𝕄
  | .hop false d s t => slab d (srcSlot s) t c (hopVal m ρ d s t c)
  | .hop true d s t => iprop(slab d (dstSlot s) t c (landVal m ρ d s t c) ∗ extra d s t c)
  | .mx false o => asrc (mshare o) c (mval m ρ c)
  | .mx true o => mslot o.succ c (mval m ρ (sh (3 - o.val) c))
def kamt : Kd → ℕ
  | .hop .. => NH
  | .mx .. => NA
theorem kamt_pos (k : Kd) : 0 < kamt k := by cases k; exacts [NH_pos, NA_pos]

instance freeSlots_storable (d c) : BI.Storable (upEmb : UEmb _ 𝕄) (freeSlots (F := F) d c) := by unfold freeSlots; infer_instance
instance barPay_storable (c b) : BI.Storable (upEmb : UEmb _ 𝕄) (barPay (F := F) c b) := by
  cases b <;> (unfold barPay; infer_instance)
instance extra_storable (d s t c) : BI.Storable (upEmb : UEmb _ 𝕄) (extra (F := F) d s t c) := by
  unfold extra; split <;> infer_instance
instance kpay_storable (c k) : BI.Storable (upEmb : UEmb _ 𝕄) (kpay (F := F) m ρ c k) := by
  unfold kpay; split <;> infer_instance

def rdDuties (g : GSem nD τ sig) (r : ℕ) : Finset Bool :=
  if r = 0 ∧ g.1.2 = .tc then
    match g.2 with
    | .reg q => if q = barS then Finset.univ else ∅
    | .dma q => if (kdOf q).isSome then {false} else ∅
  else ∅
def rdAmount (g : GSem nD τ sig) : ℕ :=
  match g.2 with
  | .reg _ => 1
  | .dma q => match kdOf q with | some k => kamt k | none => 1
def rdPayload (g : GSem nD τ sig) (b : Bool) : sProp 𝕄 :=
  match g.2 with
  | .reg _ => barPay g.1.1 b
  | .dma q => match kdOf q with | some k => kpay m ρ g.1.1 k | none => iprop(emp)

/-- One round on each cell: the barrier's two duties, a transfer cell's one. -/
def Rd : Rounds.Schedule (GSem nD τ sig) Bool 𝕄 where
  duties := rdDuties
  unitless _ := False
  amount g _ _ := rdAmount g
  payload g _ b := rdPayload m ρ g b
  amount_pos g _ _ _ := by
    unfold rdAmount; split
    · exact Nat.one_pos
    · split
      · exact kamt_pos _
      · exact Nat.one_pos

instance Rd_payload_storable (g : GSem nD τ sig) (r : ℕ) (b : Bool) : BI.Storable (upEmb : UEmb _ 𝕄) ((Rd (F := F) m ρ).payload g r b) := by
  show BI.Storable upEmb (rdPayload m ρ g b)
  unfold rdPayload; split
  · infer_instance
  · split <;> infer_instance

theorem duties_bar (c : Dev nD) : (Rd (F := F) m ρ).duties (cell c none) 0 = Finset.univ := by
  show rdDuties (cell c none) 0 = _; unfold rdDuties; rw [if_pos ⟨rfl, rfl⟩]; exact if_pos rfl
theorem duties_kd (c : Dev nD) (k : Kd) : (Rd (F := F) m ρ).duties (cell c (some k)) 0 = {false} := by
  show rdDuties (cell c (some k)) 0 = _; unfold rdDuties; rw [if_pos ⟨rfl, rfl⟩]
  show (if (kdOf (semOf k)).isSome = true then _ else _) = _
  rw [kdOf_semOf]; rfl
theorem duties_later (g : GSem nD τ sig) : ∀ r, 1 ≤ r → (Rd (F := F) m ρ).duties g r = ∅ :=
  fun r hr => by show rdDuties g r = _; unfold rdDuties; exact if_neg fun h => by omega
theorem amount_bar (c : Dev nD) (b : Bool) : (Rd (F := F) m ρ).amount (cell c none) 0 b = 1 := rfl
theorem amount_kd (c : Dev nD) (k : Kd) (b : Bool) : (Rd (F := F) m ρ).amount (cell c (some k)) 0 b = kamt k := by
  show (match kdOf (semOf k) with | some k => kamt k | none => 1) = _
  rw [kdOf_semOf]
theorem payload_bar (c : Dev nD) (b : Bool) : (Rd (F := F) m ρ).payload (cell c none) 0 b = barPay c b := rfl
theorem payload_kd (c : Dev nD) (k : Kd) (b : Bool) : (Rd (F := F) m ρ).payload (cell c (some k)) 0 b = kpay m ρ c k := by
  show (match kdOf (semOf k) with | some k => kpay m ρ c k | none => iprop(emp)) = _
  rw [kdOf_semOf]
theorem expect_bar (c : Dev nD) : (Rd (F := F) m ρ).expect (cell c none) 0 = 2 := by
  unfold Schedule.expect Schedule.amountOf
  rw [duties_bar, Finset.sum_congr rfl fun d _ => amount_bar m ρ c d, Finset.sum_const, Finset.card_univ, Fintype.card_bool, smul_eq_mul]
theorem expect_kd (c : Dev nD) (k : Kd) : (Rd (F := F) m ρ).expect (cell c (some k)) 0 = kamt k := by
  unfold Schedule.expect Schedule.amountOf; rw [duties_kd, Finset.sum_singleton, amount_kd]
theorem rest_bar (c : Dev nD) :
    bigSep ((Rd (F := F) m ρ).duties (cell c none) 0 \ ∅) (fun b => (Rd (F := F) m ρ).payload (cell c none) 0 b) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_kd (c : Dev nD) (k : Kd) :
    bigSep ((Rd (F := F) m ρ).duties (cell c (some k)) 0 \ ∅) (fun b => (Rd (F := F) m ρ).payload (cell c (some k)) 0 b) = kpay m ρ c k := by
  rw [Finset.sdiff_empty, duties_kd, bigSep_singleton, payload_kd]

/-! ## What a device owes, in the order it pays; the levels -/

/-- A payment of a device: a unit of the barrier (named by the duty paid), a ring tile, a maximum. -/
inductive Pay
  | bar (b : Bool)
  | hop (d : Bool) (s : Fin 3) (t : Fin 2)
  | mx (o : Fin 3)
  deriving DecidableEq

def Pay.to : Pay → Dev nD → Dev nD
  | .bar b, c => if b then prv c else nxt c
  | .hop d _ _, c => target d c
  | .mx o, c => sh (o.val + 1) c
def Pay.kd : Pay → Option Kd
  | .bar _ => none
  | .hop d s t => some (.hop true d s t)
  | .mx o => some (.mx true o)
def Pay.amt : Pay → ℕ
  | .bar _ => 1
  | .hop .. => NH
  | .mx _ => NA
abbrev Pay.cell (p : Pay) (c : Dev nD) : GSem nD τ sig := RingProof.cell (p.to c) p.kd

/-- What device `c` owes when the payments `l` remain. -/
def owe (c : Dev nD) : List Pay → CellTallies nD τ sig Unit
  | [] => 0
  | p :: l => owe c l + tallyAt (p.cell c) () p.amt

def payList : List Pay :=
  [.bar true, .bar false, .hop false 0 0, .hop true 0 0, .hop false 0 1, .hop true 0 1,
   .hop false 1 0, .hop true 1 0, .hop false 1 1, .hop true 1 1, .hop false 2 0, .hop true 2 0, .hop false 2 1, .hop true 2 1,
   .mx 0, .mx 1, .mx 2]

def L (g : GSem nD τ sig) : Finset Unit := if g.1.2 = .tc then {()} else ∅
def lvK : Option Kd → ℕ
  | none => 1
  | some (.hop true _ s _) => 2 + s.val
  | some (.mx true _) => 5
  | some _ => 0
def lvS : SemLoc sig → ℕ
  | .reg _ => 1
  | .dma q => match kdOf q with | none => 0 | some k => lvK (some k)
def lv (g : GSem nD τ sig) (_ : Unit) : ℕ := lvS g.2
theorem lvS_locOf (k : Option Kd) : lvS (locOf k) = lvK k := by
  cases k with
  | none => rfl
  | some k => show (match kdOf (semOf k) with | none => 0 | some k => lvK (some k)) = _; rw [kdOf_semOf]

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List Pay} {g : GSem nD τ sig} {u : Unit} (h : 0 < owe c l g u) : ∃ p ∈ l, g = p.cell c := by
  induction l with
  | nil => exact absurd h (Nat.lt_irrefl 0)
  | cons p l ih =>
    unfold owe at h
    rw [Pi.add_apply, Finsupp.add_apply, tallyAt_apply] at h
    by_cases hg : g = p.cell c
    · exact ⟨p, List.mem_cons_self, hg⟩
    · rw [if_neg (fun h' => hg h'.1), Nat.add_zero] at h
      obtain ⟨q, hq, e⟩ := ih h
      exact ⟨q, List.mem_cons_of_mem _ hq, e⟩

omit [FloatOps F] in
/-- A device may wait on a cell below everything it still owes. -/
theorem mayWait (c : Dev nD) (sm : SemLoc sig) (l : List Pay) (h : ∀ p ∈ l, lvS sm < lvK p.kd) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact le_rfl)
    (fun g u hg => by obtain ⟨p, hp, rfl⟩ := owe_pos hg; show _ < lvS (locOf p.kd); rw [lvS_locOf]; exact h p hp)

end Cert.RingProof

end
-- ==== Proof.Rules.lean ====
/-
# The rules of the kernel's steps

Each memory operation of the kernel's body as one rule over the bundles of the protocol: sending a tile, waiting for
one, taking a source back, and the same for the blocks of the maxima; loading and storing a tile.
-/
module

public import proofs.«01_k».proof.Proof.Proto

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` meets `Q`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Option Kd → ℕ)

/-- What everybody knows: every cell's invariant, that its round is open, the levels. -/
def recs : sProp 𝕄 :=
  iprop(bigSep Finset.univ (fun ck => cellInv ER (Rd m ρ) (K ck) (kcell ck)) ∗ bigSep Finset.univ (fun ck => reached ER (kcell ck) 0) ∗ levAts L lv)
instance recs_persistent : Persistent (recs m ρ K) := by unfold recs; infer_instance

theorem invs_at (ck : Dev nD × Option Kd) :
    (bigSep Finset.univ fun ck : Dev nD × Option Kd => (cellInv ER (Rd m ρ) (K ck) (kcell ck) : sProp 𝕄)) ⊢ cellInv ER (Rd m ρ) (K ck) (kcell ck) :=
  bigSep_elim (Finset.mem_univ ck)
theorem reacheds_at (ck : Dev nD × Option Kd) :
    (bigSep Finset.univ fun ck : Dev nD × Option Kd => (reached ER (kcell ck) 0 : sProp 𝕄)) ⊢ reached ER (kcell ck) 0 :=
  bigSep_elim (Finset.mem_univ ck)
theorem recs_inv (c : Dev nD) (k : Option Kd) : recs m ρ K ⊢ cellInv ER (Rd m ρ) (K (c, k)) (cell c k) := by
  unfold recs; iintro ⟨HI, -, -⟩
  iapply (invs_at m ρ K (c, k)); iexact HI
theorem recs_reached (c : Dev nD) (k : Option Kd) : recs m ρ K ⊢ reached ER (cell c k) 0 := by
  unfold recs; iintro ⟨-, HI, -⟩
  iapply (reacheds_at (c, k)); iexact HI
theorem recs_lev : recs m ρ K ⊢ levAts L lv := by
  unfold recs; iintro ⟨-, -, H⟩; iexact H

/-- What device `c` owes, whatever it has waited for. -/
def owesE (c : Dev nD) (O : CellTallies nD τ sig Unit) : sProp 𝕄 := iprop(∃ W, owes (c : Thread nD τ) O W)

/-- A wait on a cell of `c`'s own for its whole round: the round's payload and the next position. -/
theorem wp_wait_cell (c : Dev nD) (k : Option Kd) {w : TpuEff nD τ sig (Elt F) Λ₀ .tc PUnit} {n : ℕ}
    (hw : ∀ Q : PUnit → sProp 𝕄, wpE (defs₀ (F := F)) 𝒱₀ (c : Thread nD τ) none Set.univ w Q = waitSpec (c : Thread nD τ) Set.univ (locOf k) n Q)
    (hn : n = (Rd (F := F) m ρ).expect (cell c k) 0) (l : List Pay) (hl : ∀ p ∈ l, lvK k < lvK p.kd)
    {α : Type} {Q : α → sProp 𝕄} {kk : PUnit → Prog (TpuEff nD τ sig (Elt F) Λ₀ .tc) α} :
    iprop(recs m ρ K ∗ atPos ER (cell c k) 0 ∅ 0 ∗ cred (tallyAt (cell c k) () n) ∗ owesE c (owe c l))
      ⊢ iprop(((atPos ER (cell c k) 1 ∅ 0 ∗ bigSep ((Rd (F := F) m ρ).duties (cell c k) 0 \ ∅) (fun b => (Rd (F := F) m ρ).payload (cell c k) 0 b) ∗ owesE c (owe c l)) -∗ wpc c (kk ⟨⟩) Q)
          -∗ wpc c (.op w kk) Q) := by
  unfold owesE
  iintro ⟨#HR, Hat, Hc, %W, HO⟩ Hk
  ihave HI := (recs_inv m ρ K c k) $$ HR
  iapply (Rounds.wp_wait_rest_token 𝒱₀ ER (Rd m ρ) (c : Thread nD τ) none (κ := K (c, k)) hw (Set.mem_univ _) () (O := owe c l) (W := W) (R := 0) (m := 0) (T := ∅)
      (by rw [Nat.zero_add, hn])) $$ [HI Hc HO Hat]
  · isplitl [HI]; · iexact HI
    isplitl [Hc]; · iexact Hc
    isplitl [HO]; · iexact HO
    isplitr
    · iapply (mayWait c (locOf k) l (fun p hp => by rw [lvS_locOf]; exact hl p hp))
      iapply (recs_lev m ρ K); iexact HR
    iexact Hat
  iintro ⟨HO, Hat, -, Hpay⟩
  iapply Hk
  isplitl [Hat]; · iexact Hat
  isplitl [Hpay]; · iexact Hpay
  iexists _; iexact HO

/-- The same on a transfer cell, which it closes: the semaphore at zero and the payload. -/
theorem wp_wait_kd (c : Dev nD) (k : Kd) {sp sp' : Space} {s s' : Shape} {e e' : EltTy} {q : DmaSem sig} {src : Memref sig .tc sp' s' e'} {dst : Memref sig .tc sp s e}
    {hs : src.view.WordExact} {hd : dst.view.WordExact}
    (hq : q = semOf k) (hn : dst.view.dmaCredit = kamt k) (l : List Pay) (hl : ∀ p ∈ l, lvK (some k) < lvK p.kd)
    {α : Type} {Q : α → sProp 𝕄} {kk : PUnit → Prog (TpuEff nD τ sig (Elt F) Λ₀ .tc) α} :
    iprop(recs m ρ K ∗ (atPos ER (cell c (some k)) 0 ∅ 0 ∗ cred (tallyAt (cell c (some k)) () (kamt k))) ∗ owesE c (owe c l))
      ⊢ iprop(((semVal (cell c (some k)) 0 ∗ kpay m ρ c k ∗ owesE c (owe c l)) -∗ wpc c (kk ⟨⟩) Q)
          -∗ wpc c (.op (.waitDma2 q src dst hs hd) kk) Q) := by
  subst hq
  iintro ⟨#HR, ⟨Hat, Hc⟩, HO⟩ Hk
  iapply (wp_wait_cell m ρ K c (some k) (n := kamt k) (w := .waitDma2 (semOf k) src dst hs hd)
    (fun Q => (wpE_waitDma2_eq 𝒱₀ (c : Thread nD τ) none Set.univ Q).trans (by rw [hn]; rfl)) (expect_kd m ρ c k).symm l hl) $$ [Hat Hc HO]
  · isplitr; · iexact HR
    isplitl [Hat]; · iexact Hat
    isplitl [Hc]; · iexact Hc
    iexact HO
  iintro ⟨Hat, Hpay, HO⟩
  imod (Rounds.cell_close ER (Rd m ρ) (g := cell c (some k)) (κ := K (c, some k)) (Es := Set.univ) (Set.mem_univ _) (fun h => h) (R := 1) (duties_later m ρ _)) $$ [Hat] with Hsem
  · isplitr
    · iapply (recs_inv m ρ K c (some k)); iexact HR
    iexact Hat
  iapply Hk
  isplitl [Hsem]; · iexact Hsem
  isplitl [Hpay]
  · iapply (Entails.of_eq (rest_kd m ρ c k)); iexact Hpay
  iexact HO

theorem duty_kd (c : Dev nD) (k : Kd) : false ∈ (Rd (F := F) m ρ).duties (cell c (some k)) 0 := by
  rw [duties_kd]; exact Finset.mem_singleton_self _

/-! ## The barrier -/

/-- A unit to a neighbour's barrier cell, with what it hands over. -/
theorem wp_barrier_signal (c n : Dev nD) (b : Bool) (hn : n = (Pay.bar b).to c) (l : List Pay)
    {α : Type} {Q : α → sProp 𝕄} {kk : PUnit → Prog (TpuEff nD τ sig (Elt F) Λ₀ .tc) α} :
    iprop(recs m ρ K ∗ dutyTok ER (cell ((Pay.bar b).to c) none) 0 b ∗ barPay ((Pay.bar b).to c) b ∗ owesE c (owe c (.bar b :: l)))
      ⊢ iprop((owesE c (owe c l) -∗ wpc c (kk ⟨⟩) Q) -∗ wpc c (.op (.semSignal (Dev.tc n : Thread nD τ) barS 1) kk) Q) := by
  subst hn
  unfold owesE
  iintro ⟨#HR, Ht, Hp, %W, HO⟩ Hk
  iapply (Rounds.wp_signal 𝒱₀ ER (Rd m ρ) (c : Thread nD τ) none (dst := (((Pay.bar b).to c : Dev nD) : Thread nD τ)) (κ := K ((Pay.bar b).to c, none))
      (d := b) (r := 0) (k' := 1) (show b ∈ (Rd (F := F) m ρ).duties (cell ((Pay.bar b).to c) none) 0 from by rw [duties_bar]; exact Finset.mem_univ _) (amount_bar m ρ ((Pay.bar b).to c) b) () (owe c l) rfl (W := W)) $$ [Ht Hp HO]
  · isplitr; · iapply (recs_inv m ρ K ((Pay.bar b).to c) none); iexact HR
    isplitl [HO]; · iexact HO
    isplitl [Ht]; · iexact Ht
    isplitl [Hp]; · iapply (Entails.of_eq (show barPay ((Pay.bar b).to c) b = (Rd m ρ).payload ((((Pay.bar b).to c : Dev nD) : Thread nD τ), .reg barS) 0 b from rfl)); iexact Hp
    iapply (recs_reached m ρ K ((Pay.bar b).to c) none); iexact HR
  iintro HO
  iapply Hk
  iexists _; iexact HO

/-- The wait for both neighbours, closing the cell. -/
theorem wp_barrier_wait (c : Dev nD) (l : List Pay) (hl : ∀ p ∈ l, 1 < lvK p.kd)
    {α : Type} {Q : α → sProp 𝕄} {kk : PUnit → Prog (TpuEff nD τ sig (Elt F) Λ₀ .tc) α} :
    iprop(recs m ρ K ∗ (atPos ER (cell c none) 0 ∅ 0 ∗ cred (tallyAt (cell c none) () 2)) ∗ owesE c (owe c l))
      ⊢ iprop(((semVal (cell c none) 0 ∗ barPay c false ∗ barPay c true ∗ owesE c (owe c l)) -∗ wpc c (kk ⟨⟩) Q)
          -∗ wpc c (.op (.semWait barS 2) kk) Q) := by
  iintro ⟨#HR, ⟨Hat, Hc⟩, HO⟩ Hk
  iapply (wp_wait_cell m ρ K c none (n := 2) (w := .semWait barS 2)
    (fun Q => wpE_semWait_eq 𝒱₀ (c : Thread nD τ) none Set.univ Q) (expect_bar m ρ c).symm l hl) $$ [Hat Hc HO]
  · isplitr; · iexact HR
    isplitl [Hat]; · iexact Hat
    isplitl [Hc]; · iexact Hc
    iexact HO
  iintro ⟨Hat, Hpay, HO⟩
  imod (Rounds.cell_close ER (Rd m ρ) (g := cell c none) (κ := K (c, none)) (Es := Set.univ) (Set.mem_univ _) (fun h => h) (R := 1) (duties_later m ρ _)) $$ [Hat] with Hsem
  · isplitr
    · iapply (recs_inv m ρ K c none); iexact HR
    iexact Hat
  ihave Hpay2 := (Entails.of_eq (rest_bar m ρ c)) $$ Hpay
  icases Hpay2 with ⟨HpF, HpT⟩
  iapply Hk
  isplitl [Hsem]; · iexact Hsem
  isplitl [HpF]; · iexact HpF
  isplitl [HpT]; · iexact HpT
  iexact HO

/-! ## Tiles -/

/-- What sending tile `t` of hop `s` spends: the two duties, and the position on the send cell which its wait will need. -/
def stok (d : Bool) (s : Fin 3) (t : Fin 2) (c : Dev nD) : sProp 𝕄 :=
  iprop(dutyTok ER (cell c (some (.hop false d s t))) 0 false ∗ dutyTok ER (cell (target d c) (some (.hop true d s t))) 0 false
    ∗ atPos ER (cell c (some (.hop false d s t))) 0 ∅ 0)
/-- The right to wait on a transfer cell. -/
def wtok (k : Kd) (c : Dev nD) : sProp 𝕄 := iprop(atPos ER (cell c (some k)) 0 ∅ 0 ∗ cred (tallyAt (cell c (some k)) () (kamt k)))

omit [FloatOps F] in
/-- What is read of a tile after another was copied over it is what was read of the other. -/
theorem read_landed (d : Bool) (k k' : Fin 4) (t : Fin 2) (c c' : Dev nD) (fs : Buf (Elt F) ((hopM d k t).view.loc (c : Thread nD τ)))
    (fd : Buf (Elt F) ((hopM d k' t).view.loc (c' : Thread nD τ))) :
    ((commM d).access (rct k' t)).read (Elt F) ((hopM d k' t).view.write (Elt F) fd ((hopM d k t).view.read (Elt F) fs) Finset.univ)
      = ((commM d).access (rct k t)).read (Elt F) fs := by
  funext y
  obtain ⟨x, rfl⟩ := (Shape.reshapeEquiv (s := S1x1024x512) (s' := S1024x512) (by decide)).surjective y
  exact View.read_write_reshape _ _ _ _ _

/-- A tile sent: the source and the landing slot lent until it has landed. -/
theorem wp_send_hop (c n : Dev nD) (d : Bool) (s : Fin 3) (t : Fin 2) (l : List Pay) (hn : n = target d c)
    {src : Memref sig .tc .vmem S1024x512 .bf16} {dst : Memref sig (Dev.tc n : Thread nD τ).2.kind .vmem S1024x512 .bf16} {qs qr : DmaSem sig}
    (hsrc : src = hopM d (srcSlot s) t) (hdst : dst = hopM d (dstSlot s) t) (hqs : qs = semOf (.hop false d s t)) (hqr : qr = semOf (.hop true d s t))
    {hsc : dst.view.ref.isScScratch = false} {hx : src.view.WordExact} {hx' : dst.view.WordExact}
    {hty : DmaTarget.Typed .vmem (.dma qr) (.remote (Dev.tc n : Thread nD τ) dst (.dma qs) hsc)}
    {α : Type} {Q : α → sProp 𝕄} {kk : PUnit → Prog (TpuEff nD τ sig (Elt F) Λ₀ .tc) α} :
    iprop(recs m ρ K ∗ stok d s t c ∗ slab d (srcSlot s) t c (hopVal m ρ d s t c) ∗ slabAny d (dstSlot s) t (target d c) ∗ extra d s t (target d c)
        ∗ owesE c (owe c (.hop d s t :: l)))
      ⊢ iprop(((wtok (.hop false d s t) c ∗ owesE c (owe c l)) -∗ wpc c (kk ⟨⟩) Q)
          -∗ wpc c (.op (.enqueueDma src (.remote (Dev.tc n : Thread nD τ) dst (.dma qs) hsc) (.dma qr) hx hx' hty) kk) Q) := by
  subst hn hsrc hdst hqs hqr
  unfold owesE stok wtok slabAny
  iintro ⟨#HR, ⟨Ht1, Ht2, Hat⟩, Hs, ⟨%X, Hd⟩, He, %W, HO⟩ Hk
  ihave Hs' := (Entails.of_eq (show slab d (srcSlot s) t c (hopVal m ρ d s t c) = _ from by unfold slab; rfl)) $$ Hs
  icases Hs' with ⟨%fs, %hfs, Hs⟩
  ihave Hd' := (Entails.of_eq (show slab d (dstSlot s) t (target d c) X = _ from by unfold slab; rfl)) $$ Hd
  icases Hd' with ⟨%fd, %hfd, Hd⟩
  iapply (Rounds.wp_send_pointsTo_with 𝒱₀ ER (Rd m ρ) (c : Thread nD τ) none (κ₁ := K (c, some (.hop false d s t))) (κ₂ := K (target d c, some (.hop true d s t)))
      (r₁ := 0) (r₂ := 0) (d₁ := false) (d₂ := false) (sS := .dma (semOf (.hop false d s t))) (sem := .dma (semOf (.hop true d s t))) (fs := fs) (fd := fd) (q := fullShare) (F := extra d s t (target d c))
      (duty_kd m ρ c (.hop false d s t)) (duty_kd m ρ (target d c) (.hop true d s t))
      () () NH (hop_credit d (dstSlot s) t) (amount_kd m ρ c _ false) (amount_kd m ρ (target d c) _ false) (owe c l) rfl (W := W)
      (by
        refine BIBase.Entails.trans ?_ (Entails.of_eq (payload_kd m ρ c (.hop false d s t) false).symm)
        unfold kpay slab
        iintro H; iexists fs; isplitr; · ipureintro; exact hfs
        iexact H)
      (by
        refine BIBase.Entails.trans ?_ (Entails.of_eq (payload_kd m ρ (target d c) (.hop true d s t) false).symm)
        show _ ⊢ iprop(slab d (dstSlot s) t (target d c) (hopVal m ρ d s t (source d (target d c))) ∗ extra d s t (target d c))
        rw [source_target]; unfold slab
        iintro ⟨H, He⟩
        isplitl [H]
        · iexists _; isplitr; · ipureintro; exact (read_landed d (srcSlot s) (dstSlot s) t c (target d c) fs fd).trans hfs
          iexact H
        iexact He)) $$ [Ht1 Ht2 Hs Hd He HO]
  · isplitr; · iapply (recs_inv m ρ K c (some (.hop false d s t))); iexact HR
    isplitr; · iapply (recs_inv m ρ K (target d c) (some (.hop true d s t))); iexact HR
    isplitl [Hs]; · iexact Hs
    isplitl [Hd He]
    · isplitl [Hd] <;> iassumption
    isplitl [HO]; · iexact HO
    isplitl [Ht1]; · iexact Ht1
    isplitr; · iapply (recs_reached m ρ K c (some (.hop false d s t))); iexact HR
    isplitl [Ht2]; · iexact Ht2
    iapply (recs_reached m ρ K (target d c) (some (.hop true d s t))); iexact HR
  iintro ⟨Hc, HO⟩
  iapply Hk
  isplitl [Hat Hc]
  · isplitl [Hat]; · iexact Hat
    iexact Hc
  iexists _; iexact HO

omit [FloatOps F] in
theorem access_set (d : Bool) (k : Fin 4) (t : Fin 2) : (hopM d k t).view.set = ((commM d).access (rct k t)).set :=
  View.set_reshape _ _

/-- A tile loaded. -/
theorem wp_load_slab (c : Dev nD) (d : Bool) (k : Fin 4) (t : Fin 2) (X : Vec F S1x1024x512 .bf16)
    {mm : Memref sig .tc .vmem S4x1024x1024 .bf16} {off : Fin 3 → ℕ} {inb : ∀ a, off a + S1x1024x512.size a ≤ S4x1024x1024.size a}
    (hm : mm = commM d) (hoff : off = soff k t)
    {hl : mm.view.LoadsAt (Rect.unit (s := S4x1024x1024) off S1x1024x512.size inb).toLoadRect}
    {α : Type} {Q : α → sProp 𝕄} {kk : Vec F S1x1024x512 .bf16 → Prog (TpuEff nD τ sig (Elt F) Λ₀ .tc) α} :
    slab d k t c X
      ⊢ iprop((slab d k t c X -∗ wpc c (kk X) Q)
          -∗ wpc c (.op (.load mm (Rect.unit (s := S4x1024x1024) off S1x1024x512.size inb).toLoadRect hl) kk) Q) := by
  subst hm hoff
  unfold slab
  iintro ⟨%f, %hf, H⟩ Hk
  iapply (wp_load_rect 𝒱₀ (c : Thread nD τ) none Set.univ (m := commM d) (r := rct k t) (S := (hopM d k t).view.set) (f := f) (q := fullShare)
    (by rw [access_set])) $$ H
  iintro H
  rw [hf]
  iapply Hk
  iexists f; isplitr; · ipureintro; exact hf
  iexact H

omit [FloatOps F] in
theorem read_stored (c : Dev nD) (d : Bool) (k : Fin 4) (t : Fin 2) (f : Buf (Elt F) (((commM d).access (rct k t)).loc (c : Thread nD τ))) (Y : Vec F S1x1024x512 .bf16) :
    ((commM d).access (rct k t)).read (Elt F) (((commM d).access (rct k t)).write (Elt F) f Y Finset.univ) = Y :=
  View.read_write_univ _ _

/-- A tile stored. -/
theorem wp_store_slab (c : Dev nD) (d : Bool) (k : Fin 4) (t : Fin 2) (X : Vec F S1x1024x512 .bf16) (Y : Vec F S1x1024x512 .bf16)
    {mm : Memref sig .tc .vmem S4x1024x1024 .bf16} {off : Fin 3 → ℕ} {inb : ∀ a, off a + S1x1024x512.size a ≤ S4x1024x1024.size a}
    (hm : mm = commM d) (hoff : off = soff k t)
    {hx : (mm.access (Rect.unit (s := S4x1024x1024) off S1x1024x512.size inb)).Stores Finset.univ}
    {hms : (Finset.univ : Finset (Rect.unit (s := S4x1024x1024) off S1x1024x512.size inb).shape.Idx) = Finset.univ ∨ ∀ a, (Rect.unit (s := S4x1024x1024) off S1x1024x512.size inb).stride a = 1}
    {α : Type} {Q : α → sProp 𝕄} {kk : PUnit → Prog (TpuEff nD τ sig (Elt F) Λ₀ .tc) α} :
    slab d k t c X
      ⊢ iprop((slab d k t c Y -∗ wpc c (kk ⟨⟩) Q)
          -∗ wpc c (.op (.store mm (Rect.unit (s := S4x1024x1024) off S1x1024x512.size inb) Y Finset.univ hx hms) kk) Q) := by
  subst hm hoff
  unfold slab
  iintro ⟨%f, %hf, H⟩ Hk
  iapply (wp_store 𝒱₀ (c : Thread nD τ) none Set.univ (m := commM d) (r := rct k t) (Mk := Finset.univ) (S := (hopM d k t).view.set) (f := f)
    (by rw [access_set]; exact subset_rfl)) $$ H
  iintro H
  iapply Hk
  iexists (((commM d).access (rct k t)).write (Elt F) f Y Finset.univ)
  isplitr; · ipureintro; exact read_stored c d k t f Y
  iexact H

end Cert.RingProof

end
-- ==== Proof.RulesMx.lean ====
/-
# The rules of the exchange of the maxima

Sending the block of the device's maximum, and reading a block received.
-/
module

public import proofs.«01_k».proof.Proof.Rules

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-! ## The maxima -/

/-- What sending the maximum at distance `o + 1` spends. -/
def mtok (o : Fin 3) (c : Dev nD) : sProp 𝕄 :=
  iprop(dutyTok ER (cell c (some (.mx false o))) 0 false ∗ dutyTok ER (cell (sh (o.val + 1) c) (some (.mx true o))) 0 false
    ∗ atPos ER (cell c (some (.mx false o))) 0 ∅ 0)

theorem sh_sh (o : Fin 3) (c : Dev nD) : sh (3 - o.val) (sh (o.val + 1) c) = c := by revert o c; decide

omit [FloatOps F] in
theorem read_mlanded (k : Fin 4) (c : Dev nD) (fd : Buf (Elt F) ((mxM k).view.loc (c : Thread nD τ))) (Y : Vec F S8x128 .f32) :
    (mxM k).view.read (Elt F) ((mxM k).view.write (Elt F) fd (aM.view.read (Elt F) Y) Finset.univ) = Y :=
  View.read_write_univ _ _

theorem mx_pay₁ (c : Dev nD) (o : Fin 3) :
    (aM.view.loc (c : Thread nD τ) ↦[aM.view.set]{mshare o} mval m ρ c) ⊢ (Rd m ρ).payload (cell c (some (.mx false o))) 0 false :=
  Entails.of_eq (payload_kd m ρ c (.mx false o) false).symm
theorem mx_pay₂ (c : Dev nD) (o : Fin 3) (fd : Buf (Elt F) ((mxM o.succ).view.loc ((sh (o.val + 1) c : Dev nD) : Thread nD τ))) :
    ((mxM o.succ).view.loc ((sh (o.val + 1) c : Dev nD) : Thread nD τ) ↦[(mxM o.succ).view.set]{fullShare}
        ((mxM o.succ).view.write (Elt F) fd (aM.view.read (Elt F) (mval m ρ c)) Finset.univ))
      ⊢ (Rd m ρ).payload (cell (sh (o.val + 1) c) (some (.mx true o))) 0 false := by
  refine BIBase.Entails.trans ?_ (Entails.of_eq (payload_kd m ρ (sh (o.val + 1) c) (.mx true o) false).symm)
  show _ ⊢ mslot o.succ (sh (o.val + 1) c) (mval m ρ (sh (3 - o.val) (sh (o.val + 1) c)))
  rw [sh_sh]; unfold mslot
  iintro H
  iexists _; isplitr; · ipureintro; exact read_mlanded o.succ (sh (o.val + 1) c) fd (mval m ρ c)
  iexact H

/-- The block of the maximum sent: a share of it and the landing slot lent until it has landed. -/
theorem wp_send_mx (c n : Dev nD) (o : Fin 3) (l : List Pay) (hn : n = sh (o.val + 1) c)
    {src : Memref sig .tc .vmem S8x128 .f32} {dst : Memref sig (Dev.tc n : Thread nD τ).2.kind .vmem S8x128 .f32} {qs qr : DmaSem sig}
    (hsrc : src = aM) (hdst : dst = mxM o.succ) (hqs : qs = semOf (.mx false o)) (hqr : qr = semOf (.mx true o))
    {hsc : dst.view.ref.isScScratch = false} {hx : src.view.WordExact} {hx' : dst.view.WordExact}
    {hty : DmaTarget.Typed .vmem (.dma qr) (.remote (Dev.tc n : Thread nD τ) dst (.dma qs) hsc)}
    {α : Type} {Q : α → sProp 𝕄} {kk : PUnit → Prog (TpuEff nD τ sig (Elt F) Λ₀ .tc) α} :
    iprop(recs m ρ K ∗ mtok o c ∗ asrc (mshare o) c (mval m ρ c) ∗ mslotAny o.succ (sh (o.val + 1) c) ∗ owesE c (owe c (.mx o :: l)))
      ⊢ iprop(((wtok (.mx false o) c ∗ owesE c (owe c l)) -∗ wpc c (kk ⟨⟩) Q)
          -∗ wpc c (.op (.enqueueDma src (.remote (Dev.tc n : Thread nD τ) dst (.dma qs) hsc) (.dma qr) hx hx' hty) kk) Q) := by
  subst hn hsrc hdst hqs hqr
  unfold owesE mtok wtok mslotAny asrc
  iintro ⟨#HR, ⟨Ht1, Ht2, Hat⟩, Hs, ⟨%X, Hd⟩, %W, HO⟩ Hk
  ihave Hd' := (Entails.of_eq (show mslot o.succ (sh (o.val + 1) c) X = _ from by unfold mslot; rfl)) $$ Hd
  icases Hd' with ⟨%fd, %hfd, Hd⟩
  have h1 := (mx_pay₁ m ρ c o)
  have h2 := (mx_pay₂ m ρ c o fd)
  have h3 := (show (mxM o.succ).view.amount (.dma (semOf (.mx true o))) = NA from mx_credit o.succ)
  have h4 : owe c (.mx o :: l) = owe c l + tallyAt ((((sh (o.val + 1) c : Dev nD) : Thread nD τ), .dma (semOf (.mx true o))) : GSem nD τ sig) () NA := rfl
  iapply (Rounds.wp_send_pointsTo 𝒱₀ ER (Rd m ρ) (c : Thread nD τ) none (κ₁ := K (c, some (.mx false o))) (κ₂ := K (sh (o.val + 1) c, some (.mx true o)))
      (r₁ := 0) (r₂ := 0) (d₁ := false) (d₂ := false) (q := mshare o) (hsc := hsc) (hsrc := hx) (hdst := hx') (hsem := hty) (k := kk) (Q := Q) (fs := mval m ρ c) (fd := fd)
      (duty_kd m ρ c (.mx false o)) (duty_kd m ρ (sh (o.val + 1) c) (.mx true o))
      () () NA h3 (amount_kd m ρ c _ false) (amount_kd m ρ (sh (o.val + 1) c) _ false) (owe c l) h4 (W := W) h1 h2 (Es := Set.univ) (defs := defs₀ (F := F)) ) $$ [Ht1 Ht2 Hs Hd HO]
  · isplitr; · iapply (recs_inv m ρ K c (some (.mx false o))); iexact HR
    isplitr; · iapply (recs_inv m ρ K (sh (o.val + 1) c) (some (.mx true o))); iexact HR
    isplitl [Hs]; · iexact Hs
    isplitl [Hd]; · iexact Hd
    isplitl [HO]; · iexact HO
    isplitl [Ht1]; · iexact Ht1
    isplitr; · iapply (recs_reached m ρ K c (some (.mx false o))); iexact HR
    isplitl [Ht2]; · iexact Ht2
    iapply (recs_reached m ρ K (sh (o.val + 1) c) (some (.mx true o))); iexact HR
  iintro ⟨Hc, HO⟩
  iapply Hk
  isplitl [Hat Hc]
  · isplitl [Hat]; · iexact Hat
    iexact Hc
  iexists _; iexact HO

end Cert.RingProof

end
-- ==== Proof.RulesIO.lean ====
/-
# The rules of loads and stores that take more, or less, than a tile

A slot's two tiles loaded at once, the corner of a block of a maximum, the two halves of the result.
-/
module

public import proofs.«01_k».proof.Proof.RulesMx

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-! ## Two tiles at once -/

omit [FloatOps F] in
theorem slab_set (d : Bool) (k : Fin 4) (t : Fin 2) : (hopM d k t).view.set = (rct k t).set.map (commM d).view.emb :=
  (access_set d k t).trans (View.set_slice _ _)

theorem tiles_disjoint (k k' : Fin 4) (t t' : Fin 2) (h : (k, t) ≠ (k', t')) : Disjoint (rct k t).set (rct k' t').set := by
  rw [Finset.disjoint_left]
  intro i hi hi'
  rw [Rect.mem_set_unit] at hi hi'
  have a0 := hi 0; have b0 := hi' 0; have a2 := hi 2; have b2 := hi' 2
  have e : k = k' := by
    apply Fin.ext
    have : k.val ≤ (i 0).val ∧ (i 0).val < k.val + 1 := a0
    have : k'.val ≤ (i 0).val ∧ (i 0).val < k'.val + 1 := b0
    omega
  have e' : t = t' := by
    have h1 : col t ≤ (i 2).val ∧ (i 2).val < col t + 512 := a2
    have h2 : col t' ≤ (i 2).val ∧ (i 2).val < col t' + 512 := b2
    revert h1 h2
    fin_cases t <;> fin_cases t' <;> simp [col] <;> omega
  exact h (by rw [e, e'])

abbrev boff (k : Fin 4) : Fin 3 → ℕ := ![k.val, 0, 0]
theorem boff_inb (k : Fin 4) : ∀ a, boff k a + S1x1024x1024.size a ≤ S4x1024x1024.size a := by revert k; decide
/-- A whole slot. -/
abbrev brct (k : Fin 4) : Rect S4x1024x1024 := Rect.unit (s := S4x1024x1024) (boff k) S1x1024x1024.size (boff_inb k)

/-- A slot's elements are its two tiles'. -/
theorem brct_set (k : Fin 4) : (brct k).set = (rct k 0).set ∪ (rct k 1).set := by
  ext i
  rw [Finset.mem_union, Rect.mem_set_unit, Rect.mem_set_unit, Rect.mem_set_unit]
  have i1 : (i 1).val < 1024 := (i 1).isLt
  have i2 : (i 2).val < 1024 := (i 2).isLt
  constructor
  · intro h
    have h0 : k.val ≤ (i 0).val ∧ (i 0).val < k.val + 1 := h 0
    by_cases hc : (i 2).val < 512
    · left; intro a; fin_cases a
      · exact h0
      · show 0 ≤ (i 1).val ∧ (i 1).val < 0 + 1024; omega
      · show 0 ≤ (i 2).val ∧ (i 2).val < 0 + 512; omega
    · right; intro a; fin_cases a
      · exact h0
      · show 0 ≤ (i 1).val ∧ (i 1).val < 0 + 1024; omega
      · show 512 ≤ (i 2).val ∧ (i 2).val < 512 + 512; omega
  · rintro (h | h) <;> intro a <;> fin_cases a
    · exact h 0
    · show 0 ≤ (i 1).val ∧ (i 1).val < 0 + 1024; omega
    · show 0 ≤ (i 2).val ∧ (i 2).val < 0 + 1024; omega
    · exact h 0
    · show 0 ≤ (i 1).val ∧ (i 1).val < 0 + 1024; omega
    · show 0 ≤ (i 2).val ∧ (i 2).val < 0 + 1024; omega

omit [FloatOps F] in
/-- What is read of a whole slot is what is read of its tiles, side by side. -/
theorem read_both (d : Bool) (k : Fin 4) (c : Dev nD) (f f0 f1 : (commM d).view.ty.Contents (Elt F))
    (h0 : ∀ i ∈ (rct k 0).set, f ((commM d).view.emb i) = f0 ((commM d).view.emb i))
    (h1 : ∀ i ∈ (rct k 1).set, f ((commM d).view.emb i) = f1 ((commM d).view.emb i)) :
    ((commM d).access (brct k)).read (Elt F) f
      = both (((commM d).access (rct k 0)).read (Elt F) f0) (((commM d).access (rct k 1)).read (Elt F) f1) := by
  funext j
  have j0 : (j 0).val < 1 := (j 0).isLt
  by_cases hj : (j 2).val < 512
  · rw [both, dif_pos hj, View.read_apply, View.read_apply]
    refine congrArg _ ?_
    set x : S1x1024x512.Idx := fun a => match a with | 0 => j 0 | 1 => j 1 | 2 => ⟨(j 2).val, hj⟩ with hx
    have e : (brct k).emb j = (rct k 0).emb x := by
      funext a; apply Fin.ext
      fin_cases a <;> rfl
    show f ((commM d).view.emb ((brct k).emb j)) = f0 ((commM d).view.emb ((rct k 0).emb x))
    rw [e]
    exact h0 _ (by rw [← Rect.map_emb_univ]; exact Finset.mem_map_of_mem _ (Finset.mem_univ x))
  · have hj2 : (j 2).val < 1024 := (j 2).isLt
    rw [both, dif_neg hj, View.read_apply, View.read_apply]
    refine congrArg _ ?_
    set x : S1x1024x512.Idx := fun a => match a with | 0 => j 0 | 1 => j 1 | 2 => ⟨(j 2).val - 512, by show _ < 512; omega⟩ with hx
    have e : (brct k).emb j = (rct k 1).emb x := by
      funext a; apply Fin.ext
      fin_cases a
      · rfl
      · rfl
      · show 0 + 1 * (j 2).val = 512 + 1 * ((j 2).val - 512); omega
    show f ((commM d).view.emb ((brct k).emb j)) = f1 ((commM d).view.emb ((rct k 1).emb x))
    rw [e]
    exact h1 _ (by rw [← Rect.map_emb_univ]; exact Finset.mem_map_of_mem _ (Finset.mem_univ x))

/-- A whole slot loaded, holding its two tiles. -/
theorem wp_load_both (c : Dev nD) (d : Bool) (k : Fin 4) (X0 X1 : Vec F S1x1024x512 .bf16)
    {mm : Memref sig .tc .vmem S4x1024x1024 .bf16} {off : Fin 3 → ℕ} {inb : ∀ a, off a + S1x1024x1024.size a ≤ S4x1024x1024.size a}
    (hm : mm = commM d) (hoff : off = boff k)
    {hl : mm.view.LoadsAt (Rect.unit (s := S4x1024x1024) off S1x1024x1024.size inb).toLoadRect}
    {α : Type} {Q : α → sProp 𝕄} {kk : Vec F S1x1024x1024 .bf16 → Prog (TpuEff nD τ sig (Elt F) Λ₀ .tc) α} :
    iprop(slab d k 0 c X0 ∗ slab d k 1 c X1)
      ⊢ iprop(((slab d k 0 c X0 ∗ slab d k 1 c X1) -∗ wpc c (kk (both X0 X1)) Q)
          -∗ wpc c (.op (.load mm (Rect.unit (s := S4x1024x1024) off S1x1024x1024.size inb).toLoadRect hl) kk) Q) := by
  subst hm hoff
  have hdis : Disjoint (hopM d k 0).view.set (hopM d k 1).view.set := by
    rw [slab_set, slab_set]
    exact (Finset.disjoint_map _).mpr (tiles_disjoint k k 0 1 (fun h => absurd (show (0 : Fin 2) = 1 from congrArg Prod.snd h) (by decide)))
  have hset : ((commM d).access (brct k)).set = (hopM d k 0).view.set ∪ (hopM d k 1).view.set := by
    rw [slab_set, slab_set, ← Finset.map_union, ← brct_set]; exact View.set_slice _ _
  unfold slab
  iintro ⟨⟨%f0, %hf0, H0⟩, %f1, %hf1, H1⟩ Hk
  have c0 : ∀ i ∈ (hopM d k 0).view.set, ((hopM d k 1).view.set.piecewise f1 f0 : Buf (Elt F) ((commM d).view.loc (c : Thread nD τ))) i = f0 i :=
    fun i hi => Finset.piecewise_eq_of_notMem _ _ _ (Finset.disjoint_left.mp hdis hi)
  have c1 : ∀ i ∈ (hopM d k 1).view.set, ((hopM d k 1).view.set.piecewise f1 f0 : Buf (Elt F) ((commM d).view.loc (c : Thread nD τ))) i = f1 i :=
    fun i hi => Finset.piecewise_eq_of_mem _ _ _ hi
  ihave H := (pointsTo_join (ℓ := (commM d).view.loc (c : Thread nD τ)) (q := fullShare) (f := f0) (g := f1) hdis) $$ [H0 H1]
  · isplitl [H0] <;> iassumption
  iapply (wp_load_rect 𝒱₀ (c : Thread nD τ) none Set.univ (m := commM d) (r := brct k) (S := (hopM d k 0).view.set ∪ (hopM d k 1).view.set)
    (f := (hopM d k 1).view.set.piecewise f1 f0) (q := fullShare) (hset.subset)) $$ H
  iintro H
  have hr : ((commM d).access (brct k)).read (Elt F) ((hopM d k 1).view.set.piecewise f1 f0) = both X0 X1 := by
    rw [← hf0, ← hf1]
    exact read_both d k c _ f0 f1
      (fun i hi => c0 _ (by rw [slab_set]; exact Finset.mem_map_of_mem _ hi)) (fun i hi => c1 _ (by rw [slab_set]; exact Finset.mem_map_of_mem _ hi))
  rw [hr]
  iapply Hk
  ihave H2 := (pointsTo_union (ℓ := (commM d).view.loc (c : Thread nD τ)) (q := fullShare) hdis).1 $$ H
  icases H2 with ⟨H0, H1⟩
  isplitl [H0]
  · iexists f0; isplitr; · ipureintro; exact hf0
    iapply (Entails.of_eq (pointsTo_congr c0)); iexact H0
  · iexists f1; isplitr; · ipureintro; exact hf1
    iapply (Entails.of_eq (pointsTo_congr c1)); iexact H1

/-! ## The corner of a maximum's block -/

/-- The corner's rectangle. -/
abbrev cornerR (k : Fin 4) (inb : ∀ a, (![k.val, 0, 0] : Fin 3 → ℕ) a + S1x1x1.size a ≤ S4x8x128.size a) : Rect S4x8x128 :=
  Rect.unit (s := S4x8x128) ![k.val, 0, 0] S1x1x1.size inb

omit [FloatOps F] in
theorem mslot_set (k : Fin 4) : (mxM k).view.set = (arct k).set.map rM.view.emb :=
  (View.set_reshape _ _).trans (View.set_slice _ _)

omit [FloatOps F] in
theorem read_corner (k : Fin 4) (c : Dev nD) (inb) (f : rM.view.ty.Contents (Elt F)) :
    (rM.access (cornerR k inb)).read (Elt F) f = corner ((mxM k).view.read (Elt F) f) := by
  funext j
  have j0 : (j 0).val < 1 := (j 0).isLt
  have j1 : (j 1).val < 1 := (j 1).isLt
  have j2 : (j 2).val < 1 := (j 2).isLt
  unfold corner
  rw [View.read_apply, View.read_apply]
  refine congrArg _ (congrArg f ?_)
  show rM.view.emb ((cornerR k inb).emb j) = rM.view.emb ((arct k).emb (Shape.reshapeEquiv _ _))
  refine congrArg _ ?_
  refine Eq.trans ?_ (congrArg (arct k).emb (Shape.reshapeEquiv_cons_one (d := ![8, 128]) _ _).symm)
  funext a; apply Fin.ext
  fin_cases a
  · show k.val + 1 * (j 0).val = k.val + 1 * 0; omega
  · show 0 + 1 * (j 1).val = 0 + 1 * 0; omega
  · show 0 + 1 * (j 2).val = 0 + 1 * 0; omega

/-- The corner of a block received, loaded. -/
theorem wp_load_corner (c : Dev nD) (k : Fin 4) (Y : Vec F S8x128 .f32)
    {mm : Memref sig .tc .vmem S4x8x128 .f32} {off : Fin 3 → ℕ} {inb : ∀ a, off a + S1x1x1.size a ≤ S4x8x128.size a}
    (hm : mm = rM) (hoff : off = ![k.val, 0, 0])
    {hl : mm.view.LoadsAt (Rect.unit (s := S4x8x128) off S1x1x1.size inb).toLoadRect}
    {α : Type} {Q : α → sProp 𝕄} {kk : Vec F S1x1x1 .f32 → Prog (TpuEff nD τ sig (Elt F) Λ₀ .tc) α} :
    mslot k c Y
      ⊢ iprop((mslot k c Y -∗ wpc c (kk (corner Y)) Q)
          -∗ wpc c (.op (.load mm (Rect.unit (s := S4x8x128) off S1x1x1.size inb).toLoadRect hl) kk) Q) := by
  subst hm hoff
  have hsub : (rM.access (cornerR k inb)).set ⊆ (mxM k).view.set := by
    rw [mslot_set, View.set_slice]
    refine Finset.map_subset_map.mpr fun i hi => ?_
    rw [Rect.mem_set_unit] at hi ⊢
    intro a
    have h := hi a
    fin_cases a
    · exact h
    · have h : 0 ≤ (i 1).val ∧ (i 1).val < 0 + 1 := h
      show 0 ≤ (i 1).val ∧ (i 1).val < 0 + 8; omega
    · have h : 0 ≤ (i 2).val ∧ (i 2).val < 0 + 1 := h
      show 0 ≤ (i 2).val ∧ (i 2).val < 0 + 128; omega
  unfold mslot
  iintro ⟨%f, %hf, H⟩ Hk
  have hr : (rM.access (cornerR k inb)).read (Elt F) f = corner Y := by rw [← hf]; exact read_corner k c inb f
  iapply (wp_load_rect 𝒱₀ (c : Thread nD τ) none Set.univ (m := rM) (r := cornerR k inb) (S := (mxM k).view.set) (f := f) (q := fullShare) hsub) $$ H
  iintro H
  rw [hr]
  iapply Hk
  iexists f; isplitr; · ipureintro; exact hf
  iexact H

/-! ## The operands, the block of the own maximum, the result -/

/-- The buffer behind `mm` on `c`, whole, holding `X`. -/
def held {sp : Space} {s : Shape} {e : EltTy} (mm : Memref sig .tc sp s e) (c : Dev nD) (X : mm.view.ty.Contents (Elt F)) : sProp 𝕄 :=
  (mm.view.loc (c : Thread nD τ)) ↦{fullShare} X

/-- A load off a buffer held whole. -/
theorem wp_load_held (c : Dev nD) {cs : CoreSpace} {s : Shape} {e : EltTy} (mm : Memref sig .tc cs s e) (X : mm.view.ty.Contents (Elt F)) {r : LoadRect s}
    {hl : mm.view.LoadsAt r} (V : r.shape.Idx → Elt F e) (hV : mm.view.readAt (Elt F) r X = V)
    {α : Type} {Q : α → sProp 𝕄} {kk : (r.shape.Idx → Elt F e) → Prog (TpuEff nD τ sig (Elt F) Λ₀ .tc) α} :
    held mm c X ⊢ iprop((held mm c X -∗ wpc c (kk V) Q) -∗ wpc c (.op (.load mm r hl) kk) Q) := by
  subst hV
  unfold held
  iintro H Hk
  iapply (wp_load 𝒱₀ (c : Thread nD τ) none Set.univ (m := mm) (Finset.subset_univ _)) $$ H
  iintro H
  iapply Hk; iexact H

theorem zero2 : (![0, 0] : Fin 2 → ℕ) = fun _ => 0 := by funext a; fin_cases a <;> rfl

/-- The block of the own maximum, stored. -/
theorem wp_store_a (c : Dev nD) (X Y : FVec F S8x128 .f32)
    {inb : ∀ a, (![0, 0] : Fin 2 → ℕ) a + S8x128.size a ≤ S8x128.size a}
    {hx : ((aM : Memref sig .tc .vmem S8x128 .f32).access (Rect.unit (s := S8x128) ![0, 0] S8x128.size inb)).Stores Finset.univ} {hms}
    {α : Type} {Q : α → sProp 𝕄} {kk : PUnit → Prog (TpuEff nD τ sig (Elt F) Λ₀ .tc) α} :
    held aM c X ⊢ iprop((held aM c Y -∗ wpc c (kk ⟨⟩) Q)
        -∗ wpc c (.op (.store aM (Rect.unit (s := S8x128) ![0, 0] S8x128.size inb) Y Finset.univ hx hms) kk) Q) := by
  unfold held
  iintro H Hk
  iapply (wp_store 𝒱₀ (c : Thread nD τ) none Set.univ (m := aM) (r := Rect.unit (s := S8x128) ![0, 0] S8x128.size inb) (f := X) (S := Finset.univ) (Finset.subset_univ _)) $$ H
  iintro H
  iapply Hk
  rw [show ((aM : Memref sig .tc .vmem S8x128 .f32).access (Rect.unit (s := S8x128) ![0, 0] S8x128.size inb)).write (Elt F) X Y Finset.univ = Y from
    Memref.write_access_unit_zero_univ (Elt F) cc0_scratch2 zero2 inb X Y]
  iexact H

/-- The result's first half stored. -/
def outHalf (c : Dev nD) (Y : FVec F S1024x1024 .f32) (g : (cc0_stg2_0 : Ref sig .tc).ty.Contents (Elt F)) : Prop :=
  ∀ (i : S1024x2048.Idx) (h : (i 1).val < 1024), g i = Y (fun a => match a with | 0 => i 0 | 1 => ⟨(i 1).val, h⟩)

abbrev orct (o : ℕ) (inb : ∀ a, (![0, o] : Fin 2 → ℕ) a + S1024x1024.size a ≤ S1024x2048.size a) : Rect S1024x2048 :=
  Rect.unit (s := S1024x2048) ![0, o] S1024x1024.size inb

omit [FloatOps F] in
theorem write_left (c : Dev nD) (inb) (f : (cc0_stg2_0 : Ref sig .tc).ty.Contents (Elt F)) (Y : FVec F S1024x1024 .f32) :
    outHalf c Y ((oM.access (orct 0 inb)).write (Elt F) f Y Finset.univ) := by
  intro i h
  have e : i = (oM.access (orct 0 inb)).emb (fun a => match a with | 0 => i 0 | 1 => ⟨(i 1).val, h⟩) := by
    funext a; apply Fin.ext
    fin_cases a
    · show (i 0).val = 0 + 1 * (i 0).val; omega
    · show (i 1).val = 0 + 1 * (i 1).val; omega
  conv_lhs => rw [e]
  refine (View.write_emb_of_mem (v := oM.access (orct 0 inb)) f Y (Finset.mem_univ _)).trans ((cast_eq rfl _).trans (congrArg Y ?_))
  funext a; fin_cases a <;> rfl

theorem write_right (c : Dev nD) (inb) (f : (cc0_stg2_0 : Ref sig .tc).ty.Contents (Elt F)) (hf : outHalf c (outL m ρ c) f) :
    (oM.access (orct 1024 inb)).write (Elt F) f (outR m ρ c) Finset.univ = outAt m ρ c := by
  funext i
  unfold outAt
  by_cases h : (i 1).val < 1024
  · rw [dif_pos h, View.write_of_not_mem]
    · exact hf i h
    · intro hi
      obtain ⟨x, -, hx⟩ := Finset.mem_map.mp hi
      have := congrArg (fun i : S1024x2048.Idx => (i 1).val) hx
      have : 1024 + 1 * (x 1).val = (i 1).val := this
      omega
  · rw [dif_neg h]
    have e : i = (oM.access (orct 1024 inb)).emb (fun a => match a with | 0 => i 0 | 1 => ⟨(i 1).val - 1024, by have : (i 1).val < 2048 := (i 1).isLt; show _ < 1024; omega⟩) := by
      funext a; apply Fin.ext
      fin_cases a
      · show (i 0).val = 0 + 1 * (i 0).val; omega
      · show (i 1).val = 1024 + 1 * ((i 1).val - 1024); omega
    conv_lhs => rw [e]
    refine (View.write_emb_of_mem (v := oM.access (orct 1024 inb)) f (outR m ρ c) (Finset.mem_univ _)).trans ((cast_eq rfl _).trans (congrArg (outR m ρ c) ?_))
    funext a; fin_cases a <;> rfl

/-- A store into a buffer held whole. -/
theorem wp_store_stg (c : Dev nD) (o : ℕ) (X : (cc0_stg2_0 : Ref sig .tc).ty.Contents (Elt F)) (Y : FVec F S1024x1024 .f32)
    {inb} {hx : (oM.access (orct o inb)).Stores Finset.univ} {hms}
    {α : Type} {Q : α → sProp 𝕄} {kk : PUnit → Prog (TpuEff nD τ sig (Elt F) Λ₀ .tc) α} :
    held oM c X ⊢ iprop((held oM c ((oM.access (orct o inb)).write (Elt F) X Y Finset.univ) -∗ wpc c (kk ⟨⟩) Q)
        -∗ wpc c (.op (.store oM (orct o inb) Y Finset.univ hx hms) kk) Q) := by
  unfold held
  iintro H Hk
  iapply (wp_store 𝒱₀ (c : Thread nD τ) none Set.univ (m := oM) (r := orct o inb) (f := X) (S := Finset.univ) (Finset.subset_univ _)) $$ H
  iintro H
  iapply Hk; iexact H

/-! ## The neighbours, as the kernel computes them -/

theorem dev1_eq (d0 : Dev nD) : (⟨k0_dev1 d0, k0_dev1_lt d0⟩ : Dev nD) = (Pay.bar true).to d0 := by revert d0; decide +kernel
theorem dev2_eq (d0 : Dev nD) : (⟨k0_dev2 d0, k0_dev2_lt d0⟩ : Dev nD) = (Pay.bar false).to d0 := by revert d0; decide +kernel
theorem dev3_eq (d0 : Dev nD) : (⟨k0_dev3 d0, k0_dev3_lt d0⟩ : Dev nD) = target false d0 := by revert d0; decide +kernel
theorem dev4_eq (d0 : Dev nD) : (⟨k0_dev4 d0, k0_dev4_lt d0⟩ : Dev nD) = target true d0 := by revert d0; decide +kernel
theorem dev5_eq (d0 : Dev nD) : (⟨k0_dev5 d0, k0_dev5_lt d0⟩ : Dev nD) = target false d0 := by revert d0; decide +kernel
theorem dev6_eq (d0 : Dev nD) : (⟨k0_dev6 d0, k0_dev6_lt d0⟩ : Dev nD) = target true d0 := by revert d0; decide +kernel
theorem dev7_eq (d0 : Dev nD) : (⟨k0_dev7 d0, k0_dev7_lt d0⟩ : Dev nD) = target false d0 := by revert d0; decide +kernel
theorem dev8_eq (d0 : Dev nD) : (⟨k0_dev8 d0, k0_dev8_lt d0⟩ : Dev nD) = target true d0 := by revert d0; decide +kernel
theorem dev9_eq (d0 : Dev nD) : (⟨k0_dev9 d0, k0_dev9_lt d0⟩ : Dev nD) = target false d0 := by revert d0; decide +kernel
theorem dev10_eq (d0 : Dev nD) : (⟨k0_dev10 d0, k0_dev10_lt d0⟩ : Dev nD) = target true d0 := by revert d0; decide +kernel
theorem dev11_eq (d0 : Dev nD) : (⟨k0_dev11 d0, k0_dev11_lt d0⟩ : Dev nD) = target false d0 := by revert d0; decide +kernel
theorem dev12_eq (d0 : Dev nD) : (⟨k0_dev12 d0, k0_dev12_lt d0⟩ : Dev nD) = target true d0 := by revert d0; decide +kernel
theorem dev13_eq (d0 : Dev nD) : (⟨k0_dev13 d0, k0_dev13_lt d0⟩ : Dev nD) = target false d0 := by revert d0; decide +kernel
theorem dev14_eq (d0 : Dev nD) : (⟨k0_dev14 d0, k0_dev14_lt d0⟩ : Dev nD) = target true d0 := by revert d0; decide +kernel
theorem dev15_eq (d0 : Dev nD) : (⟨k0_dev15 d0, k0_dev15_lt d0⟩ : Dev nD) = sh (((0 : Fin 3)).val + 1) d0 := by revert d0; decide +kernel
theorem dev16_eq (d0 : Dev nD) : (⟨k0_dev16 d0, k0_dev16_lt d0⟩ : Dev nD) = sh (((1 : Fin 3)).val + 1) d0 := by revert d0; decide +kernel
theorem dev17_eq (d0 : Dev nD) : (⟨k0_dev17 d0, k0_dev17_lt d0⟩ : Dev nD) = sh (((2 : Fin 3)).val + 1) d0 := by revert d0; decide +kernel

end Cert.RingProof

end
-- ==== Proof.RulesTok.lean ====
/-
# The rules of the waits, and what is lent

The waits by what they give back, and the three shares of the own maximum's block.
-/
module

public import proofs.«01_k».proof.Proof.RulesIO

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-- A program that is over. -/
theorem wp_done (c : Dev nD) {α : Type} {a : α} {Q : α → sProp 𝕄} : Q a ⊢ wpc c (Prog.ret a) Q := by
  unfold wpc; rw [wp_ret]; iintro H; imodintro; iexact H

/-- One program after another. -/
theorem wp_seq (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q :=
  Entails.of_eq (wp_bind ..).symm

/-- A tile holding anything, loaded. -/
theorem wp_load_any (c : Dev nD) (d : Bool) (k : Fin 4) (t : Fin 2)
    {mm : Memref sig .tc .vmem S4x1024x1024 .bf16} {off : Fin 3 → ℕ} {inb : ∀ a, off a + S1x1024x512.size a ≤ S4x1024x1024.size a}
    (hm : mm = commM d) (hoff : off = soff k t)
    {hl : mm.view.LoadsAt (Rect.unit (s := S4x1024x1024) off S1x1024x512.size inb).toLoadRect}
    {α : Type} {Q : α → sProp 𝕄} {kk : Vec F S1x1024x512 .bf16 → Prog (TpuEff nD τ sig (Elt F) Λ₀ .tc) α} :
    slabAny d k t c
      ⊢ iprop((∀ X, slabAny d k t c -∗ wpc c (kk X) Q)
          -∗ wpc c (.op (.load mm (Rect.unit (s := S4x1024x1024) off S1x1024x512.size inb).toLoadRect hl) kk) Q) := by
  unfold slabAny
  iintro ⟨%X, H⟩ Hk
  iapply (wp_load_slab c d k t X hm hoff) $$ H
  iintro H
  iapply Hk
  iexists X; iexact H

/-- A tile holding anything, stored. -/
theorem wp_store_any (c : Dev nD) (d : Bool) (k : Fin 4) (t : Fin 2) (Y : Vec F S1x1024x512 .bf16)
    {mm : Memref sig .tc .vmem S4x1024x1024 .bf16} {off : Fin 3 → ℕ} {inb : ∀ a, off a + S1x1024x512.size a ≤ S4x1024x1024.size a}
    (hm : mm = commM d) (hoff : off = soff k t)
    {hx : (mm.access (Rect.unit (s := S4x1024x1024) off S1x1024x512.size inb)).Stores Finset.univ}
    {hms : (Finset.univ : Finset (Rect.unit (s := S4x1024x1024) off S1x1024x512.size inb).shape.Idx) = Finset.univ ∨ ∀ a, (Rect.unit (s := S4x1024x1024) off S1x1024x512.size inb).stride a = 1}
    {α : Type} {Q : α → sProp 𝕄} {kk : PUnit → Prog (TpuEff nD τ sig (Elt F) Λ₀ .tc) α} :
    slabAny d k t c
      ⊢ iprop((slab d k t c Y -∗ wpc c (kk ⟨⟩) Q)
          -∗ wpc c (.op (.store mm (Rect.unit (s := S4x1024x1024) off S1x1024x512.size inb) Y Finset.univ hx hms) kk) Q) := by
  unfold slabAny
  iintro ⟨%X, H⟩ Hk
  iapply (wp_store_slab c d k t X Y hm hoff) $$ H
  iexact Hk

/-- The wait for a tile to land. -/
theorem wp_recv (c : Dev nD) (d : Bool) (s : Fin 3) (t : Fin 2) {sp sp' : Space} {s1 s2 : Shape} {e e' : EltTy} {q : DmaSem sig} {src : Memref sig .tc sp' s2 e'} {dst : Memref sig .tc sp s1 e}
    {hs : src.view.WordExact} {hd : dst.view.WordExact}
    {k : Fin 4} (hk : dstSlot s = k) (hq : q = semOf (.hop true d s t)) (hn : dst.view.dmaCredit = NH) (l : List Pay) (hl : ∀ p ∈ l, lvK (some (.hop true d s t)) < lvK p.kd)
    {α : Type} {Q : α → sProp 𝕄} {kk : PUnit → Prog (TpuEff nD τ sig (Elt F) Λ₀ .tc) α} :
    iprop(recs m ρ K ∗ wtok (.hop true d s t) c ∗ owesE c (owe c l))
      ⊢ iprop(((semVal (cell c (some (.hop true d s t))) 0 ∗ slab d k t c (landVal m ρ d s t c) ∗ extra d s t c ∗ owesE c (owe c l)) -∗ wpc c (kk ⟨⟩) Q)
          -∗ wpc c (.op (.waitDma2 q src dst hs hd) kk) Q) := by
  subst hk; unfold wtok
  iintro ⟨#HR, HW, HO⟩ Hk
  iapply (wp_wait_kd m ρ K c (.hop true d s t) hq hn l hl) $$ [HW HO]
  · isplitr; · iexact HR
    isplitl [HW]; · iexact HW
    iexact HO
  iintro ⟨HV, HP, HO⟩
  ihave HP' := (Entails.of_eq (show kpay m ρ c (.hop true d s t) = iprop(slab d (dstSlot s) t c (landVal m ρ d s t c) ∗ extra d s t c) from rfl)) $$ HP
  icases HP' with ⟨HS, HE⟩
  iapply Hk
  isplitl [HV]; · iexact HV
  isplitl [HS]; · iexact HS
  isplitl [HE]; · iexact HE
  iexact HO

/-- The wait for a tile's source to be free again. -/
theorem wp_sent (c : Dev nD) (d : Bool) (s : Fin 3) (t : Fin 2) {sp sp' : Space} {s1 s2 : Shape} {e e' : EltTy} {q : DmaSem sig} {src : Memref sig .tc sp' s2 e'} {dst : Memref sig .tc sp s1 e}
    {hs : src.view.WordExact} {hd : dst.view.WordExact}
    {k : Fin 4} (hk : srcSlot s = k) (hq : q = semOf (.hop false d s t)) (hn : dst.view.dmaCredit = NH) (l : List Pay) (hl : ∀ p ∈ l, lvK (some (.hop false d s t)) < lvK p.kd)
    {α : Type} {Q : α → sProp 𝕄} {kk : PUnit → Prog (TpuEff nD τ sig (Elt F) Λ₀ .tc) α} :
    iprop(recs m ρ K ∗ wtok (.hop false d s t) c ∗ owesE c (owe c l))
      ⊢ iprop(((semVal (cell c (some (.hop false d s t))) 0 ∗ slab d k t c (hopVal m ρ d s t c) ∗ owesE c (owe c l)) -∗ wpc c (kk ⟨⟩) Q)
          -∗ wpc c (.op (.waitDma2 q src dst hs hd) kk) Q) := by
  subst hk; unfold wtok
  exact wp_wait_kd m ρ K c (.hop false d s t) hq hn l hl

/-- The wait for a maximum to land. -/
theorem wp_mrecv (c : Dev nD) (o : Fin 3) {sp sp' : Space} {s1 s2 : Shape} {e1 e2 : EltTy} {q : DmaSem sig} {src : Memref sig .tc sp' s2 e2} {dst : Memref sig .tc sp s1 e1}
    {hs : src.view.WordExact} {hd : dst.view.WordExact}
    {k : Fin 4} {e : ℕ} (hk : o.succ = k) (he : 3 - o.val = e) (hq : q = semOf (.mx true o)) (hn : dst.view.dmaCredit = NA) (l : List Pay) (hl : ∀ p ∈ l, lvK (some (.mx true o)) < lvK p.kd)
    {α : Type} {Q : α → sProp 𝕄} {kk : PUnit → Prog (TpuEff nD τ sig (Elt F) Λ₀ .tc) α} :
    iprop(recs m ρ K ∗ wtok (.mx true o) c ∗ owesE c (owe c l))
      ⊢ iprop(((semVal (cell c (some (.mx true o))) 0 ∗ mslot k c (mval m ρ (sh e c)) ∗ owesE c (owe c l)) -∗ wpc c (kk ⟨⟩) Q)
          -∗ wpc c (.op (.waitDma2 q src dst hs hd) kk) Q) := by
  subst hk he; unfold wtok
  exact wp_wait_kd m ρ K c (.mx true o) hq hn l hl

/-- The wait for a lent share of the own maximum's block. -/
theorem wp_msent (c : Dev nD) (o : Fin 3) {sp sp' : Space} {s1 s2 : Shape} {e e' : EltTy} {q : DmaSem sig} {src : Memref sig .tc sp' s2 e'} {dst : Memref sig .tc sp s1 e}
    {hs : src.view.WordExact} {hd : dst.view.WordExact}
    (hq : q = semOf (.mx false o)) (hn : dst.view.dmaCredit = NA) (l : List Pay) (hl : ∀ p ∈ l, lvK (some (.mx false o)) < lvK p.kd)
    {α : Type} {Q : α → sProp 𝕄} {kk : PUnit → Prog (TpuEff nD τ sig (Elt F) Λ₀ .tc) α} :
    iprop(recs m ρ K ∗ wtok (.mx false o) c ∗ owesE c (owe c l))
      ⊢ iprop(((semVal (cell c (some (.mx false o))) 0 ∗ asrc (mshare o) c (mval m ρ c) ∗ owesE c (owe c l)) -∗ wpc c (kk ⟨⟩) Q)
          -∗ wpc c (.op (.waitDma2 q src dst hs hd) kk) Q) := by
  unfold wtok
  exact wp_wait_kd m ρ K c (.mx false o) hq hn l hl

/-- What goes with the first tile to the right. -/
theorem extra_first (c : Dev nD) : mslotAny (F := F) 2 (sh 2 (nxt c)) ⊢ extra false 0 0 (target false c) := Entails.of_eq rfl
theorem extra_first' (c : Dev nD) : extra false 0 0 c ⊢ mslotAny (F := F) 2 (sh 2 c) := Entails.of_eq rfl

/-! ## The block of the own maximum, lent in three shares -/

theorem held_asrc (c : Dev nD) (Y : FVec F S8x128 .f32) : held aM c Y = asrc (F := F) fullShare c Y := by
  unfold held asrc; rw [show aM.view.set = Finset.univ from View.set_whole _]
theorem a_split (c : Dev nD) (Y : FVec F S8x128 .f32) :
    held aM c Y ⊢ iprop(asrc (F := F) (mshare 0) c Y ∗ asrc (mshare 1) c Y ∗ asrc (mshare 2) c Y) := by
  rw [held_asrc]
  unfold asrc
  iintro H
  ihave H1 := (pointsTo_share (PosShare.mem_left_op_right fullShare)).1 $$ H
  icases H1 with ⟨HL, HRR⟩
  ihave H2 := (pointsTo_share (PosShare.mem_left_op_right fullShare.right)).1 $$ HRR
  icases H2 with ⟨HRL, HRR⟩
  isplitl [HL]; · iexact HL
  isplitl [HRL]; · iexact HRL
  iexact HRR
theorem a_join (c : Dev nD) (Y : FVec F S8x128 .f32) :
    iprop(asrc (F := F) (mshare 0) c Y ∗ asrc (mshare 1) c Y ∗ asrc (mshare 2) c Y) ⊢ held aM c Y := by
  rw [held_asrc]
  unfold asrc
  iintro ⟨HL, HRL, HRR⟩
  iapply (pointsTo_share (PosShare.mem_left_op_right fullShare)).2
  isplitl [HL]; · iexact HL
  iapply (pointsTo_share (PosShare.mem_left_op_right fullShare.right)).2
  isplitl [HRL]; · iexact HRL
  iexact HRR

end Cert.RingProof

end
-- ==== Proof.PartsA.lean ====
/-
# The kernel's straight stretches, first part

Each stretch from what it needs to what it leaves.
-/
module

public import proofs.«01_k».proof.Proof.RulesTok

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-- The first tile to the right computed. -/
theorem part2_spec (c : Dev nD) (v2 v30 : BitVec 32) {Q : _ → sProp 𝕄} :
    iprop(held xM c (xstg m ρ c) ∗ held wM c (wstg m ρ c) ∗ slabAny false 3 0 c)
      ⊢ iprop((∀ a b, (held xM c (xstg m ρ c) ∗ held wM c (wstg m ρ c) ∗ slab false 3 0 c (hopVal m ρ false 0 0 c)) -∗ Q ⟨a, b⟩)
        -∗ wpc c (k0_part2 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2 v30) Q) := by
  rw [k0_part2_eq_skeleton]; unfold k0_part2_skel
  simp only [Prog.lift, Prog.bind_op, Prog.bind_ret, Prog.pure_eq_ret, Prog.bind_assoc]
  iintro ⟨Hx, Hw, S030⟩ Hk
  iapply (wp_load_held c xM (xstg m ρ c) (xA m ρ c) rfl) $$ Hx
  iintro Hx
  iapply (wp_load_held c wM (wstg m ρ c) (w0 m ρ c) rfl) $$ Hw
  iintro Hw
  iapply (wp_load_any c false 3 0 rfl rfl) $$ S030
  iintro %X S030
  iapply (wp_store_any c false 3 0 (hopVal m ρ false 0 0 c) rfl rfl) $$ S030
  iintro S030
  iapply wp_done
  iapply Hk
  isplitl [Hx]; · iexact Hx
  isplitl [Hw]; · iexact Hw
  iexact S030

/-- It is sent; the first to the left computed and sent. -/
theorem part3_spec (c : Dev nD) (v13 v24 v51 : BitVec 32) {Q : _ → sProp 𝕄} :
    iprop(recs m ρ K ∗ stok false 0 0 c ∗ slab false 3 0 c (hopVal m ρ false 0 0 c) ∗ slabAny false 0 0 (nxt c) ∗ mslotAny 2 (sh 2 (nxt c)) ∗ owesE c (owe c [.hop false 0 0, .hop true 0 0, .hop false 0 1, .hop true 0 1, .hop false 1 0, .hop true 1 0, .hop false 1 1, .hop true 1 1, .hop false 2 0, .hop true 2 0, .hop false 2 1, .hop true 2 1, .mx 0, .mx 1, .mx 2]) ∗ held xM c (xstg m ρ c) ∗ held wM c (wstg m ρ c) ∗ slabAny true 3 0 c ∗ stok true 0 0 c ∗ slabAny true 0 0 (prv c))
      ⊢ iprop(((owesE c (owe c [.hop false 0 1, .hop true 0 1, .hop false 1 0, .hop true 1 0, .hop false 1 1, .hop true 1 1, .hop false 2 0, .hop true 2 0, .hop false 2 1, .hop true 2 1, .mx 0, .mx 1, .mx 2]) ∗ held xM c (xstg m ρ c) ∗ held wM c (wstg m ρ c) ∗ wtok (.hop false false 0 0) c ∗ wtok (.hop false true 0 0) c) -∗ Q ⟨⟩)
        -∗ wpc c (k0_part3 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v13 v24 v51) Q) := by
  rw [k0_part3_eq_skeleton]; unfold k0_part3_skel
  simp only [Prog.lift, Prog.bind_op, Prog.bind_ret, Prog.pure_eq_ret, Prog.bind_assoc]
  iintro ⟨#HR, T000, S030, N000, M2n, HO, Hx, Hw, S130, T100, N100⟩ Hk
  iapply (wp_send_hop m ρ K c _ false 0 0 [.hop true 0 0, .hop false 0 1, .hop true 0 1, .hop false 1 0, .hop true 1 0, .hop false 1 1, .hop true 1 1, .hop false 2 0, .hop true 2 0, .hop false 2 1, .hop true 2 1, .mx 0, .mx 1, .mx 2] (dev3_eq c) rfl rfl rfl rfl) $$ [T000 S030 N000 M2n HO]
  · isplitr; · iexact HR
    isplitl [T000]; · iexact T000
    isplitl [S030]; · iexact S030
    isplitl [N000]; · iexact N000
    isplitl [M2n]; · iapply (extra_first c); iexact M2n
    iexact HO
  iintro ⟨W0000, HO⟩
  iapply (wp_load_held c xM (xstg m ρ c) (xB m ρ c) rfl) $$ Hx
  iintro Hx
  iapply (wp_load_held c wM (wstg m ρ c) (w2 m ρ c) rfl) $$ Hw
  iintro Hw
  iapply (wp_load_any c true 3 0 rfl rfl) $$ S130
  iintro %X S130
  iapply (wp_store_any c true 3 0 (hopVal m ρ true 0 0 c) rfl rfl) $$ S130
  iintro S130
  iapply (wp_send_hop m ρ K c _ true 0 0 [.hop false 0 1, .hop true 0 1, .hop false 1 0, .hop true 1 0, .hop false 1 1, .hop true 1 1, .hop false 2 0, .hop true 2 0, .hop false 2 1, .hop true 2 1, .mx 0, .mx 1, .mx 2] (dev4_eq c) rfl rfl rfl rfl) $$ [T100 S130 N100 HO]
  · isplitr; · iexact HR
    isplitl [T100]; · iexact T100
    isplitl [S130]; · iexact S130
    isplitl [N100]; · iexact N100
    isplitr; · iempintro
    iexact HO
  iintro ⟨W0100, HO⟩
  iapply wp_done
  iapply Hk
  isplitl [HO]; · iexact HO
  isplitl [Hx]; · iexact Hx
  isplitl [Hw]; · iexact Hw
  isplitl [W0000]; · iexact W0000
  iexact W0100

/-- The second tile to the right computed and sent; the second to the left computed. -/
theorem part4_spec (c : Dev nD) (v24 v40 v51 : BitVec 32) {Q : _ → sProp 𝕄} :
    iprop(recs m ρ K ∗ held xM c (xstg m ρ c) ∗ held wM c (wstg m ρ c) ∗ slabAny false 3 1 c ∗ stok false 0 1 c ∗ slabAny false 0 1 (nxt c) ∗ owesE c (owe c [.hop false 0 1, .hop true 0 1, .hop false 1 0, .hop true 1 0, .hop false 1 1, .hop true 1 1, .hop false 2 0, .hop true 2 0, .hop false 2 1, .hop true 2 1, .mx 0, .mx 1, .mx 2]) ∗ slabAny true 3 1 c)
      ⊢ iprop((∀ b, (held xM c (xstg m ρ c) ∗ held wM c (wstg m ρ c) ∗ owesE c (owe c [.hop true 0 1, .hop false 1 0, .hop true 1 0, .hop false 1 1, .hop true 1 1, .hop false 2 0, .hop true 2 0, .hop false 2 1, .hop true 2 1, .mx 0, .mx 1, .mx 2]) ∗ slabAny true 3 1 c ∗ wtok (.hop false false 0 1) c) -∗ Q ⟨k0_pay4 (xB m ρ c) (w3 m ρ c), b⟩)
        -∗ wpc c (k0_part4 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v24 v40 v51) Q) := by
  rw [k0_part4_eq_skeleton]; unfold k0_part4_skel
  simp only [Prog.lift, Prog.bind_op, Prog.bind_ret, Prog.pure_eq_ret, Prog.bind_assoc]
  iintro ⟨#HR, Hx, Hw, S031, T001, N001, HO, S131⟩ Hk
  iapply (wp_load_held c xM (xstg m ρ c) (xA m ρ c) rfl) $$ Hx
  iintro Hx
  iapply (wp_load_held c wM (wstg m ρ c) (w1 m ρ c) rfl) $$ Hw
  iintro Hw
  iapply (wp_load_any c false 3 1 rfl rfl) $$ S031
  iintro %X S031
  iapply (wp_store_any c false 3 1 (hopVal m ρ false 0 1 c) rfl rfl) $$ S031
  iintro S031
  iapply (wp_send_hop m ρ K c _ false 0 1 [.hop true 0 1, .hop false 1 0, .hop true 1 0, .hop false 1 1, .hop true 1 1, .hop false 2 0, .hop true 2 0, .hop false 2 1, .hop true 2 1, .mx 0, .mx 1, .mx 2] (dev5_eq c) rfl rfl rfl rfl) $$ [T001 S031 N001 HO]
  · isplitr; · iexact HR
    isplitl [T001]; · iexact T001
    isplitl [S031]; · iexact S031
    isplitl [N001]; · iexact N001
    isplitr; · iempintro
    iexact HO
  iintro ⟨W0001, HO⟩
  iapply (wp_load_held c xM (xstg m ρ c) (xB m ρ c) rfl) $$ Hx
  iintro Hx
  iapply (wp_load_held c wM (wstg m ρ c) (w3 m ρ c) rfl) $$ Hw
  iintro Hw
  iapply (wp_load_any c true 3 1 rfl rfl) $$ S131
  iintro %X S131
  iapply wp_done
  iapply Hk
  isplitl [Hx]; · iexact Hx
  isplitl [Hw]; · iexact Hw
  isplitl [HO]; · iexact HO
  isplitl [S131]; · iexact S131
  iexact W0001

/-- The latter is sent; the partial product for the second hop computed. -/
theorem part5_spec (c : Dev nD) (v2 v13 : BitVec 32) (v123 : Vec F S1x1024x512 .bf16) {Q : _ → sProp 𝕄} :
    iprop(recs m ρ K ∗ slabAny true 3 1 c ∗ stok true 0 1 c ∗ slabAny true 0 1 (prv c) ∗ owesE c (owe c [.hop true 0 1, .hop false 1 0, .hop true 1 0, .hop false 1 1, .hop true 1 1, .hop false 2 0, .hop true 2 0, .hop false 2 1, .hop true 2 1, .mx 0, .mx 1, .mx 2]) ∗ held xM c (xstg m ρ c) ∗ held wM c (wstg m ρ c))
      ⊢ iprop(((owesE c (owe c [.hop false 1 0, .hop true 1 0, .hop false 1 1, .hop true 1 1, .hop false 2 0, .hop true 2 0, .hop false 2 1, .hop true 2 1, .mx 0, .mx 1, .mx 2]) ∗ held xM c (xstg m ρ c) ∗ held wM c (wstg m ρ c) ∗ wtok (.hop false true 0 1) c) -∗ Q (p1 m ρ c))
        -∗ wpc c (k0_part5 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2 v13 (k0_pay4 (xB m ρ c) (w3 m ρ c)) v123) Q) := by
  rw [k0_part5_eq_skeleton]; unfold k0_part5_skel
  simp only [Prog.lift, Prog.bind_op, Prog.bind_ret, Prog.pure_eq_ret, Prog.bind_assoc]
  iintro ⟨#HR, S131, T101, N101, HO, Hx, Hw⟩ Hk
  iapply (wp_store_any c true 3 1 (hopVal m ρ true 0 1 c) rfl rfl) $$ S131
  iintro S131
  iapply (wp_send_hop m ρ K c _ true 0 1 [.hop false 1 0, .hop true 1 0, .hop false 1 1, .hop true 1 1, .hop false 2 0, .hop true 2 0, .hop false 2 1, .hop true 2 1, .mx 0, .mx 1, .mx 2] (dev6_eq c) rfl rfl rfl rfl) $$ [T101 S131 N101 HO]
  · isplitr; · iexact HR
    isplitl [T101]; · iexact T101
    isplitl [S131]; · iexact S131
    isplitl [N101]; · iexact N101
    isplitr; · iempintro
    iexact HO
  iintro ⟨W0101, HO⟩
  iapply (wp_load_held c xM (xstg m ρ c) (xC m ρ c) rfl) $$ Hx
  iintro Hx
  iapply (wp_load_held c wM (wstg m ρ c) (wW m ρ c) rfl) $$ Hw
  iintro Hw
  rw [show k0_pay6 (xC m ρ c) (wW m ρ c) = p1 m ρ c from rfl]
  iapply wp_done
  iapply Hk
  isplitl [HO]; · iexact HO
  isplitl [Hx]; · iexact Hx
  isplitl [Hw]; · iexact Hw
  iexact W0101

/-- Second hop, first tile to the right. -/
theorem part6_spec (c : Dev nD) (v24 : BitVec 32) {Q : _ → sProp 𝕄} :
    iprop(recs m ρ K ∗ wtok (.hop true false 0 0) c ∗ owesE c (owe c [.hop false 1 0, .hop true 1 0, .hop false 1 1, .hop true 1 1, .hop false 2 0, .hop true 2 0, .hop false 2 1, .hop true 2 1, .mx 0, .mx 1, .mx 2]) ∗ stok false 1 0 c ∗ slabAny false 1 0 (nxt c))
      ⊢ iprop(((owesE c (owe c [.hop true 1 0, .hop false 1 1, .hop true 1 1, .hop false 2 0, .hop true 2 0, .hop false 2 1, .hop true 2 1, .mx 0, .mx 1, .mx 2]) ∗ semVal (cell c (some (.hop true false 0 0))) 0 ∗ mslotAny 2 (sh 2 c) ∗ wtok (.hop false false 1 0) c) -∗ Q ⟨⟩)
        -∗ wpc c (k0_part6 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v24 (p1 m ρ c)) Q) := by
  rw [k0_part6_eq_skeleton]; unfold k0_part6_skel
  simp only [Prog.lift, Prog.bind_op, Prog.bind_ret, Prog.pure_eq_ret, Prog.bind_assoc]
  iintro ⟨#HR, W1000, HO, T010, N010⟩ Hk
  iapply (wp_recv m ρ K c false 0 0 (k := 0) rfl rfl (hop_credit false 0 0) [.hop false 1 0, .hop true 1 0, .hop false 1 1, .hop true 1 1, .hop false 2 0, .hop true 2 0, .hop false 2 1, .hop true 2 1, .mx 0, .mx 1, .mx 2] (by decide)) $$ [W1000 HO]
  · isplitr; · iexact HR
    isplitl [W1000]; · iexact W1000
    iexact HO
  iintro ⟨V1000, S000, P1', HO⟩
  ihave P1 := (extra_first' c) $$ P1'
  iapply (wp_load_slab c false 0 0 (landVal m ρ false 0 0 c) rfl rfl) $$ S000
  iintro S000
  iapply (wp_load_slab c false 0 0 (landVal m ρ false 0 0 c) rfl rfl) $$ S000
  iintro S000
  iapply (wp_store_slab c false 0 0 (landVal m ρ false 0 0 c) (hopVal m ρ false 1 0 c) rfl rfl) $$ S000
  iintro S000
  iapply (wp_send_hop m ρ K c _ false 1 0 [.hop true 1 0, .hop false 1 1, .hop true 1 1, .hop false 2 0, .hop true 2 0, .hop false 2 1, .hop true 2 1, .mx 0, .mx 1, .mx 2] (dev7_eq c) rfl rfl rfl rfl) $$ [T010 S000 N010 HO]
  · isplitr; · iexact HR
    isplitl [T010]; · iexact T010
    isplitl [S000]; · iexact S000
    isplitl [N010]; · iexact N010
    isplitr; · iempintro
    iexact HO
  iintro ⟨W0010, HO⟩
  iapply wp_done
  iapply Hk
  isplitl [HO]; · iexact HO
  isplitl [V1000]; · iexact V1000
  isplitl [P1]; · iexact P1
  iexact W0010

/-- Second hop, first tile to the left. -/
theorem part7_spec (c : Dev nD) (v13 : BitVec 32) {Q : _ → sProp 𝕄} :
    iprop(recs m ρ K ∗ wtok (.hop true true 0 0) c ∗ owesE c (owe c [.hop true 1 0, .hop false 1 1, .hop true 1 1, .hop false 2 0, .hop true 2 0, .hop false 2 1, .hop true 2 1, .mx 0, .mx 1, .mx 2]) ∗ stok true 1 0 c ∗ slabAny true 1 0 (prv c))
      ⊢ iprop(((owesE c (owe c [.hop false 1 1, .hop true 1 1, .hop false 2 0, .hop true 2 0, .hop false 2 1, .hop true 2 1, .mx 0, .mx 1, .mx 2]) ∗ semVal (cell c (some (.hop true true 0 0))) 0 ∗ wtok (.hop false true 1 0) c) -∗ Q ⟨⟩)
        -∗ wpc c (k0_part7 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v13 (p1 m ρ c)) Q) := by
  rw [k0_part7_eq_skeleton]; unfold k0_part7_skel
  simp only [Prog.lift, Prog.bind_op, Prog.bind_ret, Prog.pure_eq_ret, Prog.bind_assoc]
  iintro ⟨#HR, W1100, HO, T110, N110⟩ Hk
  iapply (wp_recv m ρ K c true 0 0 (k := 0) rfl rfl (hop_credit true 0 0) [.hop true 1 0, .hop false 1 1, .hop true 1 1, .hop false 2 0, .hop true 2 0, .hop false 2 1, .hop true 2 1, .mx 0, .mx 1, .mx 2] (by decide)) $$ [W1100 HO]
  · isplitr; · iexact HR
    isplitl [W1100]; · iexact W1100
    iexact HO
  iintro ⟨V1100, S100, -, HO⟩
  iapply (wp_load_slab c true 0 0 (landVal m ρ true 0 0 c) rfl rfl) $$ S100
  iintro S100
  iapply (wp_load_slab c true 0 0 (landVal m ρ true 0 0 c) rfl rfl) $$ S100
  iintro S100
  iapply (wp_store_slab c true 0 0 (landVal m ρ true 0 0 c) (hopVal m ρ true 1 0 c) rfl rfl) $$ S100
  iintro S100
  iapply (wp_send_hop m ρ K c _ true 1 0 [.hop false 1 1, .hop true 1 1, .hop false 2 0, .hop true 2 0, .hop false 2 1, .hop true 2 1, .mx 0, .mx 1, .mx 2] (dev8_eq c) rfl rfl rfl rfl) $$ [T110 S100 N110 HO]
  · isplitr; · iexact HR
    isplitl [T110]; · iexact T110
    isplitl [S100]; · iexact S100
    isplitl [N110]; · iexact N110
    isplitr; · iempintro
    iexact HO
  iintro ⟨W0110, HO⟩
  iapply wp_done
  iapply Hk
  isplitl [HO]; · iexact HO
  isplitl [V1100]; · iexact V1100
  iexact W0110

end Cert.RingProof

end
-- ==== Proof.PartsB.lean ====
/-
# The kernel's straight stretches, second part

Each stretch from what it needs to what it leaves.
-/
module

public import proofs.«01_k».proof.Proof.RulesTok

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-- Second hop, second tile to the right. -/
theorem part8_spec (c : Dev nD) (v24 : BitVec 32) {Q : _ → sProp 𝕄} :
    iprop(recs m ρ K ∗ wtok (.hop true false 0 1) c ∗ owesE c (owe c [.hop false 1 1, .hop true 1 1, .hop false 2 0, .hop true 2 0, .hop false 2 1, .hop true 2 1, .mx 0, .mx 1, .mx 2]) ∗ stok false 1 1 c ∗ slabAny false 1 1 (nxt c))
      ⊢ iprop(((owesE c (owe c [.hop true 1 1, .hop false 2 0, .hop true 2 0, .hop false 2 1, .hop true 2 1, .mx 0, .mx 1, .mx 2]) ∗ semVal (cell c (some (.hop true false 0 1))) 0 ∗ wtok (.hop false false 1 1) c) -∗ Q ⟨⟩)
        -∗ wpc c (k0_part8 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v24 (p1 m ρ c)) Q) := by
  rw [k0_part8_eq_skeleton]; unfold k0_part8_skel
  simp only [Prog.lift, Prog.bind_op, Prog.bind_ret, Prog.pure_eq_ret, Prog.bind_assoc]
  iintro ⟨#HR, W1001, HO, T011, N011⟩ Hk
  iapply (wp_recv m ρ K c false 0 1 (k := 0) rfl rfl (hop_credit false 0 1) [.hop false 1 1, .hop true 1 1, .hop false 2 0, .hop true 2 0, .hop false 2 1, .hop true 2 1, .mx 0, .mx 1, .mx 2] (by decide)) $$ [W1001 HO]
  · isplitr; · iexact HR
    isplitl [W1001]; · iexact W1001
    iexact HO
  iintro ⟨V1001, S001, -, HO⟩
  iapply (wp_load_slab c false 0 1 (landVal m ρ false 0 1 c) rfl rfl) $$ S001
  iintro S001
  iapply (wp_load_slab c false 0 1 (landVal m ρ false 0 1 c) rfl rfl) $$ S001
  iintro S001
  iapply (wp_store_slab c false 0 1 (landVal m ρ false 0 1 c) (hopVal m ρ false 1 1 c) rfl rfl) $$ S001
  iintro S001
  iapply (wp_send_hop m ρ K c _ false 1 1 [.hop true 1 1, .hop false 2 0, .hop true 2 0, .hop false 2 1, .hop true 2 1, .mx 0, .mx 1, .mx 2] (dev9_eq c) rfl rfl rfl rfl) $$ [T011 S001 N011 HO]
  · isplitr; · iexact HR
    isplitl [T011]; · iexact T011
    isplitl [S001]; · iexact S001
    isplitl [N011]; · iexact N011
    isplitr; · iempintro
    iexact HO
  iintro ⟨W0011, HO⟩
  iapply wp_done
  iapply Hk
  isplitl [HO]; · iexact HO
  isplitl [V1001]; · iexact V1001
  iexact W0011

/-- Second hop, second tile to the left. -/
theorem part9_spec (c : Dev nD) (v13 : BitVec 32) {Q : _ → sProp 𝕄} :
    iprop(recs m ρ K ∗ wtok (.hop true true 0 1) c ∗ owesE c (owe c [.hop true 1 1, .hop false 2 0, .hop true 2 0, .hop false 2 1, .hop true 2 1, .mx 0, .mx 1, .mx 2]) ∗ stok true 1 1 c ∗ slabAny true 1 1 (prv c))
      ⊢ iprop(((owesE c (owe c [.hop false 2 0, .hop true 2 0, .hop false 2 1, .hop true 2 1, .mx 0, .mx 1, .mx 2]) ∗ semVal (cell c (some (.hop true true 0 1))) 0 ∗ wtok (.hop false true 1 1) c) -∗ Q ⟨⟩)
        -∗ wpc c (k0_part9 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v13 (p1 m ρ c)) Q) := by
  rw [k0_part9_eq_skeleton]; unfold k0_part9_skel
  simp only [Prog.lift, Prog.bind_op, Prog.bind_ret, Prog.pure_eq_ret, Prog.bind_assoc]
  iintro ⟨#HR, W1101, HO, T111, N111⟩ Hk
  iapply (wp_recv m ρ K c true 0 1 (k := 0) rfl rfl (hop_credit true 0 1) [.hop true 1 1, .hop false 2 0, .hop true 2 0, .hop false 2 1, .hop true 2 1, .mx 0, .mx 1, .mx 2] (by decide)) $$ [W1101 HO]
  · isplitr; · iexact HR
    isplitl [W1101]; · iexact W1101
    iexact HO
  iintro ⟨V1101, S101, -, HO⟩
  iapply (wp_load_slab c true 0 1 (landVal m ρ true 0 1 c) rfl rfl) $$ S101
  iintro S101
  iapply (wp_load_slab c true 0 1 (landVal m ρ true 0 1 c) rfl rfl) $$ S101
  iintro S101
  iapply (wp_store_slab c true 0 1 (landVal m ρ true 0 1 c) (hopVal m ρ true 1 1 c) rfl rfl) $$ S101
  iintro S101
  iapply (wp_send_hop m ρ K c _ true 1 1 [.hop false 2 0, .hop true 2 0, .hop false 2 1, .hop true 2 1, .mx 0, .mx 1, .mx 2] (dev10_eq c) rfl rfl rfl rfl) $$ [T111 S101 N111 HO]
  · isplitr; · iexact HR
    isplitl [T111]; · iexact T111
    isplitl [S101]; · iexact S101
    isplitl [N111]; · iexact N111
    isplitr; · iempintro
    iexact HO
  iintro ⟨W0111, HO⟩
  iapply wp_done
  iapply Hk
  isplitl [HO]; · iexact HO
  isplitl [V1101]; · iexact V1101
  iexact W0111

/-- The partial products for the third hop. -/
theorem part10_spec (c : Dev nD) (v2 : BitVec 32) {Q : _ → sProp 𝕄} :
    iprop(held xM c (xstg m ρ c) ∗ held wM c (wstg m ρ c))
      ⊢ iprop(((held xM c (xstg m ρ c) ∗ held wM c (wstg m ρ c)) -∗ Q ⟨p2a m ρ c, p2b m ρ c⟩)
        -∗ wpc c (k0_part10 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2) Q) := by
  rw [k0_part10_eq_skeleton]; unfold k0_part10_skel
  simp only [Prog.lift, Prog.bind_op, Prog.bind_ret, Prog.pure_eq_ret, Prog.bind_assoc]
  iintro ⟨Hx, Hw⟩ Hk
  iapply (wp_load_held c xM (xstg m ρ c) (xB m ρ c) rfl) $$ Hx
  iintro Hx
  iapply (wp_load_held c wM (wstg m ρ c) (wL m ρ c) rfl) $$ Hw
  iintro Hw
  iapply (wp_load_held c xM (xstg m ρ c) (xA m ρ c) rfl) $$ Hx
  iintro Hx
  iapply (wp_load_held c wM (wstg m ρ c) (wR m ρ c) rfl) $$ Hw
  iintro Hw
  rw [show k0_pay11 (xB m ρ c) (wL m ρ c) = p2a m ρ c from rfl]
  rw [show k0_pay12 (xA m ρ c) (wR m ρ c) = p2b m ρ c from rfl]
  iapply wp_done
  iapply Hk
  isplitl [Hx]; · iexact Hx
  iexact Hw

/-- Third hop, first tile to the right. -/
theorem part11_spec (c : Dev nD) (v24 : BitVec 32) {Q : _ → sProp 𝕄} :
    iprop(recs m ρ K ∗ wtok (.hop true false 1 0) c ∗ owesE c (owe c [.hop false 2 0, .hop true 2 0, .hop false 2 1, .hop true 2 1, .mx 0, .mx 1, .mx 2]) ∗ stok false 2 0 c ∗ slabAny false 2 0 (nxt c))
      ⊢ iprop(((owesE c (owe c [.hop true 2 0, .hop false 2 1, .hop true 2 1, .mx 0, .mx 1, .mx 2]) ∗ semVal (cell c (some (.hop true false 1 0))) 0 ∗ wtok (.hop false false 2 0) c) -∗ Q ⟨⟩)
        -∗ wpc c (k0_part11 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v24 (p2a m ρ c)) Q) := by
  rw [k0_part11_eq_skeleton]; unfold k0_part11_skel
  simp only [Prog.lift, Prog.bind_op, Prog.bind_ret, Prog.pure_eq_ret, Prog.bind_assoc]
  iintro ⟨#HR, W1010, HO, T020, N020⟩ Hk
  iapply (wp_recv m ρ K c false 1 0 (k := 1) rfl rfl (hop_credit false 1 0) [.hop false 2 0, .hop true 2 0, .hop false 2 1, .hop true 2 1, .mx 0, .mx 1, .mx 2] (by decide)) $$ [W1010 HO]
  · isplitr; · iexact HR
    isplitl [W1010]; · iexact W1010
    iexact HO
  iintro ⟨V1010, S010, -, HO⟩
  iapply (wp_load_slab c false 1 0 (landVal m ρ false 1 0 c) rfl rfl) $$ S010
  iintro S010
  iapply (wp_load_slab c false 1 0 (landVal m ρ false 1 0 c) rfl rfl) $$ S010
  iintro S010
  iapply (wp_store_slab c false 1 0 (landVal m ρ false 1 0 c) (hopVal m ρ false 2 0 c) rfl rfl) $$ S010
  iintro S010
  iapply (wp_send_hop m ρ K c _ false 2 0 [.hop true 2 0, .hop false 2 1, .hop true 2 1, .mx 0, .mx 1, .mx 2] (dev11_eq c) rfl rfl rfl rfl) $$ [T020 S010 N020 HO]
  · isplitr; · iexact HR
    isplitl [T020]; · iexact T020
    isplitl [S010]; · iexact S010
    isplitl [N020]; · iexact N020
    isplitr; · iempintro
    iexact HO
  iintro ⟨W0020, HO⟩
  iapply wp_done
  iapply Hk
  isplitl [HO]; · iexact HO
  isplitl [V1010]; · iexact V1010
  iexact W0020

/-- Third hop, first tile to the left. -/
theorem part12_spec (c : Dev nD) (v13 : BitVec 32) {Q : _ → sProp 𝕄} :
    iprop(recs m ρ K ∗ wtok (.hop true true 1 0) c ∗ owesE c (owe c [.hop true 2 0, .hop false 2 1, .hop true 2 1, .mx 0, .mx 1, .mx 2]) ∗ stok true 2 0 c ∗ slabAny true 2 0 (prv c))
      ⊢ iprop(((owesE c (owe c [.hop false 2 1, .hop true 2 1, .mx 0, .mx 1, .mx 2]) ∗ semVal (cell c (some (.hop true true 1 0))) 0 ∗ wtok (.hop false true 2 0) c) -∗ Q ⟨⟩)
        -∗ wpc c (k0_part12 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v13 (p2b m ρ c)) Q) := by
  rw [k0_part12_eq_skeleton]; unfold k0_part12_skel
  simp only [Prog.lift, Prog.bind_op, Prog.bind_ret, Prog.pure_eq_ret, Prog.bind_assoc]
  iintro ⟨#HR, W1110, HO, T120, N120⟩ Hk
  iapply (wp_recv m ρ K c true 1 0 (k := 1) rfl rfl (hop_credit true 1 0) [.hop true 2 0, .hop false 2 1, .hop true 2 1, .mx 0, .mx 1, .mx 2] (by decide)) $$ [W1110 HO]
  · isplitr; · iexact HR
    isplitl [W1110]; · iexact W1110
    iexact HO
  iintro ⟨V1110, S110, -, HO⟩
  iapply (wp_load_slab c true 1 0 (landVal m ρ true 1 0 c) rfl rfl) $$ S110
  iintro S110
  iapply (wp_load_slab c true 1 0 (landVal m ρ true 1 0 c) rfl rfl) $$ S110
  iintro S110
  iapply (wp_store_slab c true 1 0 (landVal m ρ true 1 0 c) (hopVal m ρ true 2 0 c) rfl rfl) $$ S110
  iintro S110
  iapply (wp_send_hop m ρ K c _ true 2 0 [.hop false 2 1, .hop true 2 1, .mx 0, .mx 1, .mx 2] (dev12_eq c) rfl rfl rfl rfl) $$ [T120 S110 N120 HO]
  · isplitr; · iexact HR
    isplitl [T120]; · iexact T120
    isplitl [S110]; · iexact S110
    isplitl [N120]; · iexact N120
    isplitr; · iempintro
    iexact HO
  iintro ⟨W0120, HO⟩
  iapply wp_done
  iapply Hk
  isplitl [HO]; · iexact HO
  isplitl [V1110]; · iexact V1110
  iexact W0120

/-- Third hop, second tile to the right. -/
theorem part13_spec (c : Dev nD) (v24 : BitVec 32) {Q : _ → sProp 𝕄} :
    iprop(recs m ρ K ∗ wtok (.hop true false 1 1) c ∗ owesE c (owe c [.hop false 2 1, .hop true 2 1, .mx 0, .mx 1, .mx 2]) ∗ stok false 2 1 c ∗ slabAny false 2 1 (nxt c))
      ⊢ iprop(((owesE c (owe c [.hop true 2 1, .mx 0, .mx 1, .mx 2]) ∗ semVal (cell c (some (.hop true false 1 1))) 0 ∗ wtok (.hop false false 2 1) c) -∗ Q ⟨⟩)
        -∗ wpc c (k0_part13 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v24 (p2a m ρ c)) Q) := by
  rw [k0_part13_eq_skeleton]; unfold k0_part13_skel
  simp only [Prog.lift, Prog.bind_op, Prog.bind_ret, Prog.pure_eq_ret, Prog.bind_assoc]
  iintro ⟨#HR, W1011, HO, T021, N021⟩ Hk
  iapply (wp_recv m ρ K c false 1 1 (k := 1) rfl rfl (hop_credit false 1 1) [.hop false 2 1, .hop true 2 1, .mx 0, .mx 1, .mx 2] (by decide)) $$ [W1011 HO]
  · isplitr; · iexact HR
    isplitl [W1011]; · iexact W1011
    iexact HO
  iintro ⟨V1011, S011, -, HO⟩
  iapply (wp_load_slab c false 1 1 (landVal m ρ false 1 1 c) rfl rfl) $$ S011
  iintro S011
  iapply (wp_load_slab c false 1 1 (landVal m ρ false 1 1 c) rfl rfl) $$ S011
  iintro S011
  iapply (wp_store_slab c false 1 1 (landVal m ρ false 1 1 c) (hopVal m ρ false 2 1 c) rfl rfl) $$ S011
  iintro S011
  iapply (wp_send_hop m ρ K c _ false 2 1 [.hop true 2 1, .mx 0, .mx 1, .mx 2] (dev13_eq c) rfl rfl rfl rfl) $$ [T021 S011 N021 HO]
  · isplitr; · iexact HR
    isplitl [T021]; · iexact T021
    isplitl [S011]; · iexact S011
    isplitl [N021]; · iexact N021
    isplitr; · iempintro
    iexact HO
  iintro ⟨W0021, HO⟩
  iapply wp_done
  iapply Hk
  isplitl [HO]; · iexact HO
  isplitl [V1011]; · iexact V1011
  iexact W0021

/-- Third hop, second tile to the left. -/
theorem part14_spec (c : Dev nD) (v13 : BitVec 32) {Q : _ → sProp 𝕄} :
    iprop(recs m ρ K ∗ wtok (.hop true true 1 1) c ∗ owesE c (owe c [.hop true 2 1, .mx 0, .mx 1, .mx 2]) ∗ stok true 2 1 c ∗ slabAny true 2 1 (prv c))
      ⊢ iprop(((owesE c (owe c [.mx 0, .mx 1, .mx 2]) ∗ semVal (cell c (some (.hop true true 1 1))) 0 ∗ wtok (.hop false true 2 1) c) -∗ Q ⟨⟩)
        -∗ wpc c (k0_part14 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v13 (p2b m ρ c)) Q) := by
  rw [k0_part14_eq_skeleton]; unfold k0_part14_skel
  simp only [Prog.lift, Prog.bind_op, Prog.bind_ret, Prog.pure_eq_ret, Prog.bind_assoc]
  iintro ⟨#HR, W1111, HO, T121, N121⟩ Hk
  iapply (wp_recv m ρ K c true 1 1 (k := 1) rfl rfl (hop_credit true 1 1) [.hop true 2 1, .mx 0, .mx 1, .mx 2] (by decide)) $$ [W1111 HO]
  · isplitr; · iexact HR
    isplitl [W1111]; · iexact W1111
    iexact HO
  iintro ⟨V1111, S111, -, HO⟩
  iapply (wp_load_slab c true 1 1 (landVal m ρ true 1 1 c) rfl rfl) $$ S111
  iintro S111
  iapply (wp_load_slab c true 1 1 (landVal m ρ true 1 1 c) rfl rfl) $$ S111
  iintro S111
  iapply (wp_store_slab c true 1 1 (landVal m ρ true 1 1 c) (hopVal m ρ true 2 1 c) rfl rfl) $$ S111
  iintro S111
  iapply (wp_send_hop m ρ K c _ true 2 1 [.mx 0, .mx 1, .mx 2] (dev14_eq c) rfl rfl rfl rfl) $$ [T121 S111 N121 HO]
  · isplitr; · iexact HR
    isplitl [T121]; · iexact T121
    isplitl [S111]; · iexact S111
    isplitl [N121]; · iexact N121
    isplitr; · iempintro
    iexact HO
  iintro ⟨W0121, HO⟩
  iapply wp_done
  iapply Hk
  isplitl [HO]; · iexact HO
  isplitl [V1111]; · iexact V1111
  iexact W0121

end Cert.RingProof

end
-- ==== Proof.PartsC.lean ====
/-
# The kernel's straight stretches, third part

Each stretch from what it needs to what it leaves.
-/
module

public import proofs.«01_k».proof.Proof.RulesTok

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-- The own partial product; the first tiles of the chunk received. -/
theorem part15_spec (c : Dev nD) (v2 v13 v24 : BitVec 32) {Q : _ → sProp 𝕄} :
    iprop(recs m ρ K ∗ held xM c (xstg m ρ c) ∗ held wM c (wstg m ρ c) ∗ wtok (.hop true false 2 0) c ∗ owesE c (owe c [.mx 0, .mx 1, .mx 2]) ∗ wtok (.hop true true 2 0) c)
      ⊢ iprop(((held xM c (xstg m ρ c) ∗ held wM c (wstg m ρ c) ∗ owesE c (owe c [.mx 0, .mx 1, .mx 2]) ∗ semVal (cell c (some (.hop true false 2 0))) 0 ∗ slab false 2 0 c (landVal m ρ false 2 0 c) ∗ semVal (cell c (some (.hop true true 2 0))) 0 ∗ slab true 2 0 c (landVal m ρ true 2 0 c)) -∗ Q (pown m ρ c))
        -∗ wpc c (k0_part15 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2 v13 v24) Q) := by
  rw [k0_part15_eq_skeleton]; unfold k0_part15_skel
  simp only [Prog.lift, Prog.bind_op, Prog.bind_ret, Prog.pure_eq_ret, Prog.bind_assoc]
  iintro ⟨#HR, Hx, Hw, W1020, HO, W1120⟩ Hk
  iapply (wp_load_held c xM (xstg m ρ c) (xD m ρ c) rfl) $$ Hx
  iintro Hx
  iapply (wp_load_held c wM (wstg m ρ c) (wW m ρ c) rfl) $$ Hw
  iintro Hw
  iapply (wp_recv m ρ K c false 2 0 (k := 2) rfl rfl (hop_credit false 2 0) [.mx 0, .mx 1, .mx 2] (by decide)) $$ [W1020 HO]
  · isplitr; · iexact HR
    isplitl [W1020]; · iexact W1020
    iexact HO
  iintro ⟨V1020, S020, -, HO⟩
  iapply (wp_recv m ρ K c true 2 0 (k := 2) rfl rfl (hop_credit true 2 0) [.mx 0, .mx 1, .mx 2] (by decide)) $$ [W1120 HO]
  · isplitr; · iexact HR
    isplitl [W1120]; · iexact W1120
    iexact HO
  iintro ⟨V1120, S120, -, HO⟩
  rw [show k0_pay17 (xD m ρ c) (wW m ρ c) = pown m ρ c from rfl]
  iapply wp_done
  iapply Hk
  isplitl [Hx]; · iexact Hx
  isplitl [Hw]; · iexact Hw
  isplitl [HO]; · iexact HO
  isplitl [V1020]; · iexact V1020
  isplitl [S020]; · iexact S020
  isplitl [V1120]; · iexact V1120
  iexact S120

/-- The second tiles received; the first of the sends over. -/
theorem part16_spec (c : Dev nD) (v13 v24 : BitVec 32) {Q : _ → sProp 𝕄} :
    iprop(recs m ρ K ∗ wtok (.hop true false 2 1) c ∗ owesE c (owe c [.mx 0, .mx 1, .mx 2]) ∗ wtok (.hop true true 2 1) c ∗ wtok (.hop false false 0 0) c)
      ⊢ iprop(((owesE c (owe c [.mx 0, .mx 1, .mx 2]) ∗ semVal (cell c (some (.hop true false 2 1))) 0 ∗ slab false 2 1 c (landVal m ρ false 2 1 c) ∗ semVal (cell c (some (.hop true true 2 1))) 0 ∗ slab true 2 1 c (landVal m ρ true 2 1 c) ∗ semVal (cell c (some (.hop false false 0 0))) 0 ∗ slab false 3 0 c (hopVal m ρ false 0 0 c)) -∗ Q ⟨⟩)
        -∗ wpc c (k0_part16 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 v13 v24) Q) := by
  rw [k0_part16_eq_skeleton]; unfold k0_part16_skel
  simp only [Prog.lift, Prog.bind_op, Prog.bind_ret, Prog.pure_eq_ret, Prog.bind_assoc]
  iintro ⟨#HR, W1021, HO, W1121, W0000⟩ Hk
  iapply (wp_recv m ρ K c false 2 1 (k := 2) rfl rfl (hop_credit false 2 1) [.mx 0, .mx 1, .mx 2] (by decide)) $$ [W1021 HO]
  · isplitr; · iexact HR
    isplitl [W1021]; · iexact W1021
    iexact HO
  iintro ⟨V1021, S021, -, HO⟩
  iapply (wp_recv m ρ K c true 2 1 (k := 2) rfl rfl (hop_credit true 2 1) [.mx 0, .mx 1, .mx 2] (by decide)) $$ [W1121 HO]
  · isplitr; · iexact HR
    isplitl [W1121]; · iexact W1121
    iexact HO
  iintro ⟨V1121, S121, -, HO⟩
  iapply (wp_sent m ρ K c false 0 0 (k := 3) rfl rfl (hop_credit false 3 0) [.mx 0, .mx 1, .mx 2] (by decide)) $$ [W0000 HO]
  · isplitr; · iexact HR
    isplitl [W0000]; · iexact W0000
    iexact HO
  iintro ⟨V0000, S030, HO⟩
  iapply wp_done
  iapply Hk
  isplitl [HO]; · iexact HO
  isplitl [V1021]; · iexact V1021
  isplitl [S021]; · iexact S021
  isplitl [V1121]; · iexact V1121
  isplitl [S121]; · iexact S121
  isplitl [V0000]; · iexact V0000
  iexact S030

/-- Sends over. -/
theorem part17_spec (c : Dev nD)  {Q : _ → sProp 𝕄} :
    iprop(recs m ρ K ∗ wtok (.hop false true 0 0) c ∗ owesE c (owe c [.mx 0, .mx 1, .mx 2]) ∗ wtok (.hop false false 0 1) c ∗ wtok (.hop false true 0 1) c)
      ⊢ iprop(((owesE c (owe c [.mx 0, .mx 1, .mx 2]) ∗ semVal (cell c (some (.hop false true 0 0))) 0 ∗ slab true 3 0 c (hopVal m ρ true 0 0 c) ∗ semVal (cell c (some (.hop false false 0 1))) 0 ∗ slab false 3 1 c (hopVal m ρ false 0 1 c) ∗ semVal (cell c (some (.hop false true 0 1))) 0 ∗ slab true 3 1 c (hopVal m ρ true 0 1 c)) -∗ Q ⟨⟩)
        -∗ wpc c (k0_part17 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 ) Q) := by
  rw [k0_part17_eq_skeleton]; unfold k0_part17_skel
  simp only [Prog.lift, Prog.bind_op, Prog.bind_ret, Prog.pure_eq_ret, Prog.bind_assoc]
  iintro ⟨#HR, W0100, HO, W0001, W0101⟩ Hk
  iapply (wp_sent m ρ K c true 0 0 (k := 3) rfl rfl (hop_credit true 3 0) [.mx 0, .mx 1, .mx 2] (by decide)) $$ [W0100 HO]
  · isplitr; · iexact HR
    isplitl [W0100]; · iexact W0100
    iexact HO
  iintro ⟨V0100, S130, HO⟩
  iapply (wp_sent m ρ K c false 0 1 (k := 3) rfl rfl (hop_credit false 3 1) [.mx 0, .mx 1, .mx 2] (by decide)) $$ [W0001 HO]
  · isplitr; · iexact HR
    isplitl [W0001]; · iexact W0001
    iexact HO
  iintro ⟨V0001, S031, HO⟩
  iapply (wp_sent m ρ K c true 0 1 (k := 3) rfl rfl (hop_credit true 3 1) [.mx 0, .mx 1, .mx 2] (by decide)) $$ [W0101 HO]
  · isplitr; · iexact HR
    isplitl [W0101]; · iexact W0101
    iexact HO
  iintro ⟨V0101, S131, HO⟩
  iapply wp_done
  iapply Hk
  isplitl [HO]; · iexact HO
  isplitl [V0100]; · iexact V0100
  isplitl [S130]; · iexact S130
  isplitl [V0001]; · iexact V0001
  isplitl [S031]; · iexact S031
  isplitl [V0101]; · iexact V0101
  iexact S131

/-- Sends over. -/
theorem part18_spec (c : Dev nD)  {Q : _ → sProp 𝕄} :
    iprop(recs m ρ K ∗ wtok (.hop false false 1 0) c ∗ owesE c (owe c [.mx 0, .mx 1, .mx 2]) ∗ wtok (.hop false true 1 0) c ∗ wtok (.hop false false 1 1) c ∗ wtok (.hop false true 1 1) c)
      ⊢ iprop(((owesE c (owe c [.mx 0, .mx 1, .mx 2]) ∗ semVal (cell c (some (.hop false false 1 0))) 0 ∗ slab false 0 0 c (hopVal m ρ false 1 0 c) ∗ semVal (cell c (some (.hop false true 1 0))) 0 ∗ slab true 0 0 c (hopVal m ρ true 1 0 c) ∗ semVal (cell c (some (.hop false false 1 1))) 0 ∗ slab false 0 1 c (hopVal m ρ false 1 1 c) ∗ semVal (cell c (some (.hop false true 1 1))) 0 ∗ slab true 0 1 c (hopVal m ρ true 1 1 c)) -∗ Q ⟨⟩)
        -∗ wpc c (k0_part18 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 ) Q) := by
  rw [k0_part18_eq_skeleton]; unfold k0_part18_skel
  simp only [Prog.lift, Prog.bind_op, Prog.bind_ret, Prog.pure_eq_ret, Prog.bind_assoc]
  iintro ⟨#HR, W0010, HO, W0110, W0011, W0111⟩ Hk
  iapply (wp_sent m ρ K c false 1 0 (k := 0) rfl rfl (hop_credit false 0 0) [.mx 0, .mx 1, .mx 2] (by decide)) $$ [W0010 HO]
  · isplitr; · iexact HR
    isplitl [W0010]; · iexact W0010
    iexact HO
  iintro ⟨V0010, S000, HO⟩
  iapply (wp_sent m ρ K c true 1 0 (k := 0) rfl rfl (hop_credit true 0 0) [.mx 0, .mx 1, .mx 2] (by decide)) $$ [W0110 HO]
  · isplitr; · iexact HR
    isplitl [W0110]; · iexact W0110
    iexact HO
  iintro ⟨V0110, S100, HO⟩
  iapply (wp_sent m ρ K c false 1 1 (k := 0) rfl rfl (hop_credit false 0 1) [.mx 0, .mx 1, .mx 2] (by decide)) $$ [W0011 HO]
  · isplitr; · iexact HR
    isplitl [W0011]; · iexact W0011
    iexact HO
  iintro ⟨V0011, S001, HO⟩
  iapply (wp_sent m ρ K c true 1 1 (k := 0) rfl rfl (hop_credit true 0 1) [.mx 0, .mx 1, .mx 2] (by decide)) $$ [W0111 HO]
  · isplitr; · iexact HR
    isplitl [W0111]; · iexact W0111
    iexact HO
  iintro ⟨V0111, S101, HO⟩
  iapply wp_done
  iapply Hk
  isplitl [HO]; · iexact HO
  isplitl [V0010]; · iexact V0010
  isplitl [S000]; · iexact S000
  isplitl [V0110]; · iexact V0110
  isplitl [S100]; · iexact S100
  isplitl [V0011]; · iexact V0011
  isplitl [S001]; · iexact S001
  isplitl [V0111]; · iexact V0111
  iexact S101

/-- Sends over. -/
theorem part19_spec (c : Dev nD)  {Q : _ → sProp 𝕄} :
    iprop(recs m ρ K ∗ wtok (.hop false false 2 0) c ∗ owesE c (owe c [.mx 0, .mx 1, .mx 2]) ∗ wtok (.hop false true 2 0) c ∗ wtok (.hop false false 2 1) c)
      ⊢ iprop(((owesE c (owe c [.mx 0, .mx 1, .mx 2]) ∗ semVal (cell c (some (.hop false false 2 0))) 0 ∗ slab false 1 0 c (hopVal m ρ false 2 0 c) ∗ semVal (cell c (some (.hop false true 2 0))) 0 ∗ slab true 1 0 c (hopVal m ρ true 2 0 c) ∗ semVal (cell c (some (.hop false false 2 1))) 0 ∗ slab false 1 1 c (hopVal m ρ false 2 1 c)) -∗ Q ⟨⟩)
        -∗ wpc c (k0_part19 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 ) Q) := by
  rw [k0_part19_eq_skeleton]; unfold k0_part19_skel
  simp only [Prog.lift, Prog.bind_op, Prog.bind_ret, Prog.pure_eq_ret, Prog.bind_assoc]
  iintro ⟨#HR, W0020, HO, W0120, W0021⟩ Hk
  iapply (wp_sent m ρ K c false 2 0 (k := 1) rfl rfl (hop_credit false 1 0) [.mx 0, .mx 1, .mx 2] (by decide)) $$ [W0020 HO]
  · isplitr; · iexact HR
    isplitl [W0020]; · iexact W0020
    iexact HO
  iintro ⟨V0020, S010, HO⟩
  iapply (wp_sent m ρ K c true 2 0 (k := 1) rfl rfl (hop_credit true 1 0) [.mx 0, .mx 1, .mx 2] (by decide)) $$ [W0120 HO]
  · isplitr; · iexact HR
    isplitl [W0120]; · iexact W0120
    iexact HO
  iintro ⟨V0120, S110, HO⟩
  iapply (wp_sent m ρ K c false 2 1 (k := 1) rfl rfl (hop_credit false 1 1) [.mx 0, .mx 1, .mx 2] (by decide)) $$ [W0021 HO]
  · isplitr; · iexact HR
    isplitl [W0021]; · iexact W0021
    iexact HO
  iintro ⟨V0021, S011, HO⟩
  iapply wp_done
  iapply Hk
  isplitl [HO]; · iexact HO
  isplitl [V0020]; · iexact V0020
  isplitl [S010]; · iexact S010
  isplitl [V0120]; · iexact V0120
  isplitl [S110]; · iexact S110
  isplitl [V0021]; · iexact V0021
  iexact S011

end Cert.RingProof

end
-- ==== Proof.PartsD.lean ====
/-
# The kernel's straight stretches, fourth part

Each stretch from what it needs to what it leaves.
-/
module

public import proofs.«01_k».proof.Proof.RulesTok

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-- The last send over; the chunk and its maximum; the block of the maximum stored, and split among the three copies. -/
theorem part20_spec (c : Dev nD) (v2 : BitVec 32) (XA : aM.view.ty.Contents (Elt F)) {Q : _ → sProp 𝕄} :
    iprop(recs m ρ K ∗ wtok (.hop false true 2 1) c ∗ owesE c (owe c [.mx 0, .mx 1, .mx 2]) ∗ slab false 2 0 c (landVal m ρ false 2 0 c) ∗ slab false 2 1 c (landVal m ρ false 2 1 c) ∗ slab true 2 0 c (landVal m ρ true 2 0 c) ∗ slab true 2 1 c (landVal m ρ true 2 1 c) ∗ held aM c XA)
      ⊢ iprop((∀ a b, (owesE c (owe c [.mx 0, .mx 1, .mx 2]) ∗ slab false 2 0 c (landVal m ρ false 2 0 c) ∗ slab false 2 1 c (landVal m ρ false 2 1 c) ∗ slab true 2 0 c (landVal m ρ true 2 0 c) ∗ slab true 2 1 c (landVal m ρ true 2 1 c) ∗ semVal (cell c (some (.hop false true 2 1))) 0 ∗ slab true 1 1 c (hopVal m ρ true 2 1 c) ∗ asrc (mshare 0) c (mval m ρ c) ∗ asrc (mshare 1) c (mval m ρ c) ∗ asrc (mshare 2) c (mval m ρ c)) -∗ Q ⟨ya m ρ c, yb m ρ c, mloc m ρ c, a, b⟩)
        -∗ wpc c (k0_part20 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 v2 (pown m ρ c)) Q) := by
  rw [k0_part20_eq_skeleton]; unfold k0_part20_skel
  simp only [Prog.lift, Prog.bind_op, Prog.bind_ret, Prog.pure_eq_ret, Prog.bind_assoc]
  iintro ⟨#HR, W0121, HO, S020, S021, S120, S121, Ha⟩ Hk
  iapply (wp_sent m ρ K c true 2 1 (k := 1) rfl rfl (hop_credit true 1 1) [.mx 0, .mx 1, .mx 2] (by decide)) $$ [W0121 HO]
  · isplitr; · iexact HR
    isplitl [W0121]; · iexact W0121
    iexact HO
  iintro ⟨V0121, S111, HO⟩
  iapply (wp_load_both c false 2 (landVal m ρ false 2 0 c) (landVal m ρ false 2 1 c) rfl rfl) $$ [S020 S021]
  · isplitl [S020]; · iexact S020
    iexact S021
  iintro ⟨S020, S021⟩
  iapply (wp_load_both c true 2 (landVal m ρ true 2 0 c) (landVal m ρ true 2 1 c) rfl rfl) $$ [S120 S121]
  · isplitl [S120]; · iexact S120
    iexact S121
  iintro ⟨S120, S121⟩
  iapply (wp_load_held c aM XA _ rfl) $$ Ha
  iintro Ha
  iapply (wp_store_a c XA (mval m ρ c)) $$ Ha
  iintro Ha
  ihave HA := (a_split c (mval m ρ c)) $$ Ha
  icases HA with ⟨A0, A1, A2⟩
  rw [show both (landVal m ρ false 2 0 c) (landVal m ρ false 2 1 c) = landBoth m ρ false c from rfl]
  rw [show both (landVal m ρ true 2 0 c) (landVal m ρ true 2 1 c) = landBoth m ρ true c from rfl]
  rw [show k0_pay18 (pown m ρ c) (landBoth m ρ false c) = ya m ρ c from rfl]
  rw [show k0_pay19 (pown m ρ c) (landBoth m ρ true c) = yb m ρ c from rfl]
  rw [show k0_pay20 (pown m ρ c) (landBoth m ρ false c) (landBoth m ρ true c) = mloc m ρ c from rfl]
  iapply wp_done
  iapply Hk
  isplitl [HO]; · iexact HO
  isplitl [S020]; · iexact S020
  isplitl [S021]; · iexact S021
  isplitl [S120]; · iexact S120
  isplitl [S121]; · iexact S121
  isplitl [V0121]; · iexact V0121
  isplitl [S111]; · iexact S111
  isplitl [A0]; · iexact A0
  isplitl [A1]; · iexact A1
  iexact A2

/-- The maximum sent to the right and to the device opposite. -/
theorem part21_spec (c : Dev nD) (v2 v550 v551 : BitVec 32) {Q : _ → sProp 𝕄} :
    iprop(recs m ρ K ∗ mtok 0 c ∗ asrc (mshare 0) c (mval m ρ c) ∗ mslotAny 1 (nxt c) ∗ owesE c (owe c [.mx 0, .mx 1, .mx 2]) ∗ mtok 1 c ∗ asrc (mshare 1) c (mval m ρ c) ∗ mslotAny 2 (sh 2 c))
      ⊢ iprop((∀ a b, (owesE c (owe c [.mx 2]) ∗ wtok (.mx false 0) c ∗ wtok (.mx false 1) c) -∗ Q ⟨a, b⟩)
        -∗ wpc c (k0_part21 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2 v550 v551) Q) := by
  rw [k0_part21_eq_skeleton]; unfold k0_part21_skel
  simp only [Prog.lift, Prog.bind_op, Prog.bind_ret, Prog.pure_eq_ret, Prog.bind_assoc]
  iintro ⟨#HR, X0, A0, P0, HO, X1, A1, P1⟩ Hk
  iapply (wp_send_mx m ρ K c _ 0 [.mx 1, .mx 2] (dev15_eq c) rfl rfl rfl rfl) $$ [X0 A0 P0 HO]
  · isplitr; · iexact HR
    isplitl [X0]; · iexact X0
    isplitl [A0]; · iexact A0
    isplitl [P0]; · iexact P0
    iexact HO
  iintro ⟨WX00, HO⟩
  iapply (wp_send_mx m ρ K c _ 1 [.mx 2] (dev16_eq c) rfl rfl rfl rfl) $$ [X1 A1 P1 HO]
  · isplitr; · iexact HR
    isplitl [X1]; · iexact X1
    isplitl [A1]; · iexact A1
    isplitl [P1]; · iexact P1
    iexact HO
  iintro ⟨WX01, HO⟩
  iapply wp_done
  iapply Hk
  isplitl [HO]; · iexact HO
  isplitl [WX00]; · iexact WX00
  iexact WX01

/-- The maximum sent to the left; the right one's slot received. -/
theorem part22_spec (c : Dev nD) (v2 v558 : BitVec 32) {Q : _ → sProp 𝕄} :
    iprop(recs m ρ K ∗ mtok 2 c ∗ asrc (mshare 2) c (mval m ρ c) ∗ mslotAny 3 (prv c) ∗ owesE c (owe c [.mx 2]) ∗ wtok (.mx false 0) c ∗ wtok (.mx true 0) c)
      ⊢ iprop((∀ a, (owesE c (owe c []) ∗ wtok (.mx false 2) c ∗ semVal (cell c (some (.mx false 0))) 0 ∗ asrc (mshare 0) c (mval m ρ c) ∗ semVal (cell c (some (.mx true 0))) 0 ∗ mslot 1 c (mval m ρ (sh 3 c))) -∗ Q a)
        -∗ wpc c (k0_part22 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 c v2 v558) Q) := by
  rw [k0_part22_eq_skeleton]; unfold k0_part22_skel
  simp only [Prog.lift, Prog.bind_op, Prog.bind_ret, Prog.pure_eq_ret, Prog.bind_assoc]
  iintro ⟨#HR, X2, A2, P2, HO, WX00, WX10⟩ Hk
  iapply (wp_send_mx m ρ K c _ 2 [] (dev17_eq c) rfl rfl rfl rfl) $$ [X2 A2 P2 HO]
  · isplitr; · iexact HR
    isplitl [X2]; · iexact X2
    isplitl [A2]; · iexact A2
    isplitl [P2]; · iexact P2
    iexact HO
  iintro ⟨WX02, HO⟩
  iapply (wp_msent m ρ K c 0 rfl a_credit [] (by decide)) $$ [WX00 HO]
  · isplitr; · iexact HR
    isplitl [WX00]; · iexact WX00
    iexact HO
  iintro ⟨VX00, A0, HO⟩
  iapply (wp_mrecv m ρ K c 0 (k := 1) (e := 3) rfl rfl rfl (mx_credit 1) [] (by decide)) $$ [WX10 HO]
  · isplitr; · iexact HR
    isplitl [WX10]; · iexact WX10
    iexact HO
  iintro ⟨VX10, M1, HO⟩
  iapply wp_done
  iapply Hk
  isplitl [HO]; · iexact HO
  isplitl [WX02]; · iexact WX02
  isplitl [VX00]; · iexact VX00
  isplitl [A0]; · iexact A0
  isplitl [VX10]; · iexact VX10
  iexact M1

/-- The other two received; their corners read. -/
theorem part23_spec (c : Dev nD) (v577 v596 : BitVec 32) {Q : _ → sProp 𝕄} :
    iprop(recs m ρ K ∗ wtok (.mx false 1) c ∗ owesE c (owe c []) ∗ wtok (.mx true 1) c ∗ wtok (.mx false 2) c ∗ wtok (.mx true 2) c ∗ mslot 1 c (mval m ρ (sh 3 c)))
      ⊢ iprop(((owesE c (owe c []) ∗ mslot 1 c (mval m ρ (sh 3 c)) ∗ semVal (cell c (some (.mx false 1))) 0 ∗ asrc (mshare 1) c (mval m ρ c) ∗ semVal (cell c (some (.mx true 1))) 0 ∗ mslot 2 c (mval m ρ (sh 2 c)) ∗ semVal (cell c (some (.mx false 2))) 0 ∗ asrc (mshare 2) c (mval m ρ c) ∗ semVal (cell c (some (.mx true 2))) 0 ∗ mslot 3 c (mval m ρ (sh 1 c))) -∗ Q ⟨mA m ρ c, mB m ρ c⟩)
        -∗ wpc c (k0_part23 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9 (mloc m ρ c) v577 v596) Q) := by
  rw [k0_part23_eq_skeleton]; unfold k0_part23_skel
  simp only [Prog.lift, Prog.bind_op, Prog.bind_ret, Prog.pure_eq_ret, Prog.bind_assoc]
  iintro ⟨#HR, WX01, HO, WX11, WX02, WX12, M1⟩ Hk
  iapply (wp_msent m ρ K c 1 rfl a_credit [] (by decide)) $$ [WX01 HO]
  · isplitr; · iexact HR
    isplitl [WX01]; · iexact WX01
    iexact HO
  iintro ⟨VX01, A1, HO⟩
  iapply (wp_mrecv m ρ K c 1 (k := 2) (e := 2) rfl rfl rfl (mx_credit 2) [] (by decide)) $$ [WX11 HO]
  · isplitr; · iexact HR
    isplitl [WX11]; · iexact WX11
    iexact HO
  iintro ⟨VX11, M2, HO⟩
  iapply (wp_msent m ρ K c 2 rfl a_credit [] (by decide)) $$ [WX02 HO]
  · isplitr; · iexact HR
    isplitl [WX02]; · iexact WX02
    iexact HO
  iintro ⟨VX02, A2, HO⟩
  iapply (wp_mrecv m ρ K c 2 (k := 3) (e := 1) rfl rfl rfl (mx_credit 3) [] (by decide)) $$ [WX12 HO]
  · isplitr; · iexact HR
    isplitl [WX12]; · iexact WX12
    iexact HO
  iintro ⟨VX12, M3, HO⟩
  iapply (wp_load_corner c 1 (mval m ρ (sh 3 c)) rfl rfl) $$ M1
  iintro M1
  iapply (wp_load_corner c 2 (mval m ρ (sh 2 c)) rfl rfl) $$ M2
  iintro M2
  rw [show k0_pay22 (mloc m ρ c) (corner (mval m ρ (sh 3 c))) = mA m ρ c from rfl]
  rw [show k0_pay23 (corner (mval m ρ (sh 2 c))) = mB m ρ c from rfl]
  iapply wp_done
  iapply Hk
  isplitl [HO]; · iexact HO
  isplitl [M1]; · iexact M1
  isplitl [VX01]; · iexact VX01
  isplitl [A1]; · iexact A1
  isplitl [VX11]; · iexact VX11
  isplitl [M2]; · iexact M2
  isplitl [VX02]; · iexact VX02
  isplitl [A2]; · iexact A2
  isplitl [VX12]; · iexact VX12
  iexact M3

end Cert.RingProof

end
-- ==== Proof.Body.lean ====
/-
# The body of the kernel

The stretches put together, and the barrier before them.
-/
module

public import proofs.«01_k».proof.Proof.PartsA
public import proofs.«01_k».proof.Proof.PartsB
public import proofs.«01_k».proof.Proof.PartsC
public import proofs.«01_k».proof.Proof.PartsD

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-! ## The barrier -/

theorem bar_give_true (c : Dev nD) : iprop(freeSlots false c ∗ mslotAny 1 c) ⊢ barPay (F := F) ((Pay.bar true).to c) true := by
  show _ ⊢ iprop(freeSlots false (nxt (prv c)) ∗ mslotAny 1 (nxt (prv c)))
  rw [nxt_prv]
theorem bar_give_false (c : Dev nD) : iprop(freeSlots true c ∗ mslotAny 3 c ∗ mslotAny 2 c) ⊢ barPay (F := F) ((Pay.bar false).to c) false := by
  show _ ⊢ iprop(freeSlots true (prv (nxt c)) ∗ mslotAny 3 (prv (nxt c)) ∗ mslotAny 2 (prv (nxt c)))
  rw [prv_nxt]
theorem sh2_nxt (c : Dev nD) : sh 2 (nxt c) = prv c := by revert c; decide
theorem bar_got_true (c : Dev nD) : barPay (F := F) c true ⊢ iprop(freeSlots false (nxt c) ∗ mslotAny 1 (nxt c)) := Entails.of_eq rfl
theorem bar_got_false (c : Dev nD) : barPay (F := F) c false ⊢ iprop(freeSlots true (prv c) ∗ mslotAny 3 (prv c) ∗ mslotAny 2 (sh 2 (nxt c))) := by
  rw [sh2_nxt]; exact Entails.of_eq rfl

/-- The right to wait on the own barrier. -/
def btok (c : Dev nD) : sProp 𝕄 := iprop(atPos ER (cell c none) 0 ∅ 0 ∗ cred (tallyAt (cell c none) () 2))

/-- The landing slots lent to both neighbours, and theirs received. -/
theorem part1_spec (c : Dev nD) {Q : _ → sProp 𝕄} :
    iprop(recs m ρ K ∗ btok c ∗ dutyTok ER (cell (prv c) none) 0 true ∗ dutyTok ER (cell (nxt c) none) 0 false
        ∗ freeSlots false c ∗ freeSlots true c ∗ mslotAny 1 c ∗ mslotAny 2 c ∗ mslotAny 3 c ∗ owesE c (owe c payList))
      ⊢ iprop((∀ a b d e, (semVal (cell c none) 0 ∗ slabAny true 0 0 (prv c) ∗ slabAny true 0 1 (prv c) ∗ slabAny true 1 0 (prv c) ∗ slabAny true 1 1 (prv c) ∗ slabAny true 2 0 (prv c) ∗ slabAny true 2 1 (prv c) ∗ slabAny false 0 0 (nxt c) ∗ slabAny false 0 1 (nxt c) ∗ slabAny false 1 0 (nxt c) ∗ slabAny false 1 1 (nxt c) ∗ slabAny false 2 0 (nxt c) ∗ slabAny false 2 1 (nxt c) ∗ mslotAny 1 (nxt c) ∗ mslotAny 3 (prv c) ∗ mslotAny 2 (sh 2 (nxt c)) ∗ owesE c (owe c [.hop false 0 0, .hop true 0 0, .hop false 0 1, .hop true 0 1, .hop false 1 0, .hop true 1 0, .hop false 1 1, .hop true 1 1, .hop false 2 0, .hop true 2 0, .hop false 2 1, .hop true 2 1, .mx 0, .mx 1, .mx 2])) -∗ Q ⟨c, a, b, d, e⟩)
        -∗ wpc c (k0_part1 (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HR, HB, DT, DF, F0, F1, G1, G2, G3, HO⟩ Hk
  iapply (wp_barrier_signal m ρ K c _ true (dev1_eq c) (.bar false :: [.hop false 0 0, .hop true 0 0, .hop false 0 1, .hop true 0 1, .hop false 1 0, .hop true 1 0, .hop false 1 1, .hop true 1 1, .hop false 2 0, .hop true 2 0, .hop false 2 1, .hop true 2 1, .mx 0, .mx 1, .mx 2])) $$ [DT F0 G1 HO]
  · isplitr; · iexact HR
    isplitl [DT]; · iexact DT
    isplitl [F0 G1]
    · iapply (bar_give_true c)
      isplitl [F0]; · iexact F0
      iexact G1
    iexact HO
  iintro HO
  iapply (wp_barrier_signal m ρ K c _ false (dev2_eq c) [.hop false 0 0, .hop true 0 0, .hop false 0 1, .hop true 0 1, .hop false 1 0, .hop true 1 0, .hop false 1 1, .hop true 1 1, .hop false 2 0, .hop true 2 0, .hop false 2 1, .hop true 2 1, .mx 0, .mx 1, .mx 2]) $$ [DF F1 G2 G3 HO]
  · isplitr; · iexact HR
    isplitl [DF]; · iexact DF
    isplitl [F1 G2 G3]
    · iapply (bar_give_false c)
      isplitl [F1]; · iexact F1
      isplitl [G3]; · iexact G3
      iexact G2
    iexact HO
  iintro HO
  iapply (wp_barrier_wait m ρ K c [.hop false 0 0, .hop true 0 0, .hop false 0 1, .hop true 0 1, .hop false 1 0, .hop true 1 0, .hop false 1 1, .hop true 1 1, .hop false 2 0, .hop true 2 0, .hop false 2 1, .hop true 2 1, .mx 0, .mx 1, .mx 2] (by decide)) $$ [HB HO]
  · isplitr; · iexact HR
    isplitl [HB]; · unfold btok; iexact HB
    iexact HO
  iintro ⟨VB, BF, BT, HO⟩
  ihave BF' := (bar_got_false c) $$ BF
  ihave BT' := (bar_got_true c) $$ BT
  unfold freeSlots
  icases BF' with ⟨⟨N100, N101, N110, N111, N120, N121⟩, P2, M2n⟩
  icases BT' with ⟨⟨N000, N001, N010, N011, N020, N021⟩, P0⟩
  iapply wp_done
  iapply Hk
  isplitl [VB]; · iexact VB
  isplitl [N100]; · iexact N100
  isplitl [N101]; · iexact N101
  isplitl [N110]; · iexact N110
  isplitl [N111]; · iexact N111
  isplitl [N120]; · iexact N120
  isplitl [N121]; · iexact N121
  isplitl [N000]; · iexact N000
  isplitl [N001]; · iexact N001
  isplitl [N010]; · iexact N010
  isplitl [N011]; · iexact N011
  isplitl [N020]; · iexact N020
  isplitl [N021]; · iexact N021
  isplitl [P0]; · iexact P0
  isplitl [P2]; · iexact P2
  isplitl [M2n]; · iexact M2n
  iexact HO

/-! ## The whole body -/

/-- The body, from the staged operands and the lent slots to the result staged, everything back, every cell at rest. -/
theorem body_spec (c : Dev nD) (XA : aM.view.ty.Contents (Elt F)) (XO : oM.view.ty.Contents (Elt F)) {Q : PUnit → sProp 𝕄} :
    iprop(recs m ρ K ∗ btok c ∗ dutyTok ER (cell (prv c) none) 0 true ∗ dutyTok ER (cell (nxt c) none) 0 false
        ∗ freeSlots false c ∗ freeSlots true c ∗ mslotAny 1 c ∗ mslotAny 2 c ∗ mslotAny 3 c ∗ owesE c (owe c payList)
        ∗ held xM c (xstg m ρ c) ∗ held wM c (wstg m ρ c) ∗ held aM c XA ∗ held oM c XO ∗ slabAny false 3 0 c ∗ stok false 0 0 c ∗ wtok (.hop true false 0 0) c ∗ stok false 1 0 c ∗ wtok (.hop true false 1 0) c ∗ stok false 2 0 c ∗ wtok (.hop true false 2 0) c ∗ slabAny false 3 1 c ∗ stok false 0 1 c ∗ wtok (.hop true false 0 1) c ∗ stok false 1 1 c ∗ wtok (.hop true false 1 1) c ∗ stok false 2 1 c ∗ wtok (.hop true false 2 1) c ∗ slabAny true 3 0 c ∗ stok true 0 0 c ∗ wtok (.hop true true 0 0) c ∗ stok true 1 0 c ∗ wtok (.hop true true 1 0) c ∗ stok true 2 0 c ∗ wtok (.hop true true 2 0) c ∗ slabAny true 3 1 c ∗ stok true 0 1 c ∗ wtok (.hop true true 0 1) c ∗ stok true 1 1 c ∗ wtok (.hop true true 1 1) c ∗ stok true 2 1 c ∗ wtok (.hop true true 2 1) c ∗ mtok 0 c ∗ wtok (.mx true 0) c ∗ mtok 1 c ∗ wtok (.mx true 1) c ∗ mtok 2 c ∗ wtok (.mx true 2) c)
      ⊢ iprop(((semVal (cell c none) 0 ∗ held xM c (xstg m ρ c) ∗ held wM c (wstg m ρ c) ∗ held oM c (outAt m ρ c) ∗ owesE c (owe c []) ∗ semVal (cell c (some (.hop true false 0 0))) 0 ∗ semVal (cell c (some (.hop true true 0 0))) 0 ∗ semVal (cell c (some (.hop true false 0 1))) 0 ∗ semVal (cell c (some (.hop true true 0 1))) 0 ∗ semVal (cell c (some (.hop true false 1 0))) 0 ∗ semVal (cell c (some (.hop true true 1 0))) 0 ∗ semVal (cell c (some (.hop true false 1 1))) 0 ∗ semVal (cell c (some (.hop true true 1 1))) 0 ∗ semVal (cell c (some (.hop true false 2 0))) 0 ∗ slab false 2 0 c (landVal m ρ false 2 0 c) ∗ semVal (cell c (some (.hop true true 2 0))) 0 ∗ slab true 2 0 c (landVal m ρ true 2 0 c) ∗ semVal (cell c (some (.hop true false 2 1))) 0 ∗ slab false 2 1 c (landVal m ρ false 2 1 c) ∗ semVal (cell c (some (.hop true true 2 1))) 0 ∗ slab true 2 1 c (landVal m ρ true 2 1 c) ∗ semVal (cell c (some (.hop false false 0 0))) 0 ∗ slab false 3 0 c (hopVal m ρ false 0 0 c) ∗ semVal (cell c (some (.hop false true 0 0))) 0 ∗ slab true 3 0 c (hopVal m ρ true 0 0 c) ∗ semVal (cell c (some (.hop false false 0 1))) 0 ∗ slab false 3 1 c (hopVal m ρ false 0 1 c) ∗ semVal (cell c (some (.hop false true 0 1))) 0 ∗ slab true 3 1 c (hopVal m ρ true 0 1 c) ∗ semVal (cell c (some (.hop false false 1 0))) 0 ∗ slab false 0 0 c (hopVal m ρ false 1 0 c) ∗ semVal (cell c (some (.hop false true 1 0))) 0 ∗ slab true 0 0 c (hopVal m ρ true 1 0 c) ∗ semVal (cell c (some (.hop false false 1 1))) 0 ∗ slab false 0 1 c (hopVal m ρ false 1 1 c) ∗ semVal (cell c (some (.hop false true 1 1))) 0 ∗ slab true 0 1 c (hopVal m ρ true 1 1 c) ∗ semVal (cell c (some (.hop false false 2 0))) 0 ∗ slab false 1 0 c (hopVal m ρ false 2 0 c) ∗ semVal (cell c (some (.hop false true 2 0))) 0 ∗ slab true 1 0 c (hopVal m ρ true 2 0 c) ∗ semVal (cell c (some (.hop false false 2 1))) 0 ∗ slab false 1 1 c (hopVal m ρ false 2 1 c) ∗ semVal (cell c (some (.hop false true 2 1))) 0 ∗ slab true 1 1 c (hopVal m ρ true 2 1 c) ∗ semVal (cell c (some (.mx false 0))) 0 ∗ asrc (mshare 0) c (mval m ρ c) ∗ semVal (cell c (some (.mx true 0))) 0 ∗ mslot 1 c (mval m ρ (sh 3 c)) ∗ semVal (cell c (some (.mx false 1))) 0 ∗ asrc (mshare 1) c (mval m ρ c) ∗ semVal (cell c (some (.mx true 1))) 0 ∗ mslot 2 c (mval m ρ (sh 2 c)) ∗ semVal (cell c (some (.mx false 2))) 0 ∗ asrc (mshare 2) c (mval m ρ c) ∗ semVal (cell c (some (.mx true 2))) 0 ∗ mslot 3 c (mval m ρ (sh 1 c))) -∗ Q ⟨⟩)
        -∗ wpc c (cc0_body (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9) Q) := by
  rw [cc0_body_eq_skeleton]; unfold cc0_body_skel
  rw [k0_part24_eq_skeleton]; unfold k0_part24_skel
  simp only [Prog.lift, Prog.bind_op, Prog.bind_ret, Prog.pure_eq_ret, Prog.bind_assoc]
  iintro ⟨#HR, HB, DT, DF, F0, F1, G1, G2, G3, HO, Hx, Hw, Ha, Ho, S030, T000, W1000, T010, W1010, T020, W1020, S031, T001, W1001, T011, W1011, T021, W1021, S130, T100, W1100, T110, W1110, T120, W1120, S131, T101, W1101, T111, W1111, T121, W1121, X0, WX10, X1, WX11, X2, WX12⟩ Hk
  iapply wp_seq
  iapply (part1_spec m ρ K c) $$ [HB DT DF F0 F1 G1 G2 G3 HO]
  · isplitr; · iexact HR
    isplitl [HB]; · iexact HB
    isplitl [DT]; · iexact DT
    isplitl [DF]; · iexact DF
    isplitl [F0]; · iexact F0
    isplitl [F1]; · iexact F1
    isplitl [G1]; · iexact G1
    isplitl [G2]; · iexact G2
    isplitl [G3]; · iexact G3
    iexact HO
  iintro %v2 %v13 %v24 %v30 ⟨VB, N100, N101, N110, N111, N120, N121, N000, N001, N010, N011, N020, N021, P0, P2, M2n, HO⟩
  iapply wp_seq
  iapply (part2_spec m ρ c v2 v30) $$ [Hx Hw S030]
  · isplitl [Hx]; · iexact Hx
    isplitl [Hw]; · iexact Hw
    iexact S030
  iintro %v40 %v51 ⟨Hx, Hw, S030⟩
  iapply wp_seq
  iapply (part3_spec m ρ K c v13 v24 v51) $$ [T000 S030 N000 M2n HO Hx Hw S130 T100 N100]
  · isplitr; · iexact HR
    isplitl [T000]; · iexact T000
    isplitl [S030]; · iexact S030
    isplitl [N000]; · iexact N000
    isplitl [M2n]; · iexact M2n
    isplitl [HO]; · iexact HO
    isplitl [Hx]; · iexact Hx
    isplitl [Hw]; · iexact Hw
    isplitl [S130]; · iexact S130
    isplitl [T100]; · iexact T100
    iexact N100
  iintro ⟨HO, Hx, Hw, W0000, W0100⟩
  iapply wp_seq
  iapply (part4_spec m ρ K c v24 v40 v51) $$ [Hx Hw S031 T001 N001 HO S131]
  · isplitr; · iexact HR
    isplitl [Hx]; · iexact Hx
    isplitl [Hw]; · iexact Hw
    isplitl [S031]; · iexact S031
    isplitl [T001]; · iexact T001
    isplitl [N001]; · iexact N001
    isplitl [HO]; · iexact HO
    iexact S131
  iintro %v123 ⟨Hx, Hw, HO, S131, W0001⟩
  iapply wp_seq
  iapply (part5_spec m ρ K c v2 v13 v123) $$ [S131 T101 N101 HO Hx Hw]
  · isplitr; · iexact HR
    isplitl [S131]; · iexact S131
    isplitl [T101]; · iexact T101
    isplitl [N101]; · iexact N101
    isplitl [HO]; · iexact HO
    isplitl [Hx]; · iexact Hx
    iexact Hw
  iintro ⟨HO, Hx, Hw, W0101⟩
  iapply wp_seq
  iapply (part6_spec m ρ K c v24) $$ [W1000 HO T010 N010]
  · isplitr; · iexact HR
    isplitl [W1000]; · iexact W1000
    isplitl [HO]; · iexact HO
    isplitl [T010]; · iexact T010
    iexact N010
  iintro ⟨HO, V1000, P1, W0010⟩
  iapply wp_seq
  iapply (part7_spec m ρ K c v13) $$ [W1100 HO T110 N110]
  · isplitr; · iexact HR
    isplitl [W1100]; · iexact W1100
    isplitl [HO]; · iexact HO
    isplitl [T110]; · iexact T110
    iexact N110
  iintro ⟨HO, V1100, W0110⟩
  iapply wp_seq
  iapply (part8_spec m ρ K c v24) $$ [W1001 HO T011 N011]
  · isplitr; · iexact HR
    isplitl [W1001]; · iexact W1001
    isplitl [HO]; · iexact HO
    isplitl [T011]; · iexact T011
    iexact N011
  iintro ⟨HO, V1001, W0011⟩
  iapply wp_seq
  iapply (part9_spec m ρ K c v13) $$ [W1101 HO T111 N111]
  · isplitr; · iexact HR
    isplitl [W1101]; · iexact W1101
    isplitl [HO]; · iexact HO
    isplitl [T111]; · iexact T111
    iexact N111
  iintro ⟨HO, V1101, W0111⟩
  iapply wp_seq
  iapply (part10_spec m ρ c v2) $$ [Hx Hw]
  · isplitl [Hx]; · iexact Hx
    iexact Hw
  iintro ⟨Hx, Hw⟩
  iapply wp_seq
  iapply (part11_spec m ρ K c v24) $$ [W1010 HO T020 N020]
  · isplitr; · iexact HR
    isplitl [W1010]; · iexact W1010
    isplitl [HO]; · iexact HO
    isplitl [T020]; · iexact T020
    iexact N020
  iintro ⟨HO, V1010, W0020⟩
  iapply wp_seq
  iapply (part12_spec m ρ K c v13) $$ [W1110 HO T120 N120]
  · isplitr; · iexact HR
    isplitl [W1110]; · iexact W1110
    isplitl [HO]; · iexact HO
    isplitl [T120]; · iexact T120
    iexact N120
  iintro ⟨HO, V1110, W0120⟩
  iapply wp_seq
  iapply (part13_spec m ρ K c v24) $$ [W1011 HO T021 N021]
  · isplitr; · iexact HR
    isplitl [W1011]; · iexact W1011
    isplitl [HO]; · iexact HO
    isplitl [T021]; · iexact T021
    iexact N021
  iintro ⟨HO, V1011, W0021⟩
  iapply wp_seq
  iapply (part14_spec m ρ K c v13) $$ [W1111 HO T121 N121]
  · isplitr; · iexact HR
    isplitl [W1111]; · iexact W1111
    isplitl [HO]; · iexact HO
    isplitl [T121]; · iexact T121
    iexact N121
  iintro ⟨HO, V1111, W0121⟩
  iapply wp_seq
  iapply (part15_spec m ρ K c v2 v13 v24) $$ [Hx Hw W1020 HO W1120]
  · isplitr; · iexact HR
    isplitl [Hx]; · iexact Hx
    isplitl [Hw]; · iexact Hw
    isplitl [W1020]; · iexact W1020
    isplitl [HO]; · iexact HO
    iexact W1120
  iintro ⟨Hx, Hw, HO, V1020, S020, V1120, S120⟩
  iapply wp_seq
  iapply (part16_spec m ρ K c v13 v24) $$ [W1021 HO W1121 W0000]
  · isplitr; · iexact HR
    isplitl [W1021]; · iexact W1021
    isplitl [HO]; · iexact HO
    isplitl [W1121]; · iexact W1121
    iexact W0000
  iintro ⟨HO, V1021, S021, V1121, S121, V0000, S030⟩
  iapply wp_seq
  iapply (part17_spec m ρ K c ) $$ [W0100 HO W0001 W0101]
  · isplitr; · iexact HR
    isplitl [W0100]; · iexact W0100
    isplitl [HO]; · iexact HO
    isplitl [W0001]; · iexact W0001
    iexact W0101
  iintro ⟨HO, V0100, S130, V0001, S031, V0101, S131⟩
  iapply wp_seq
  iapply (part18_spec m ρ K c ) $$ [W0010 HO W0110 W0011 W0111]
  · isplitr; · iexact HR
    isplitl [W0010]; · iexact W0010
    isplitl [HO]; · iexact HO
    isplitl [W0110]; · iexact W0110
    isplitl [W0011]; · iexact W0011
    iexact W0111
  iintro ⟨HO, V0010, S000, V0110, S100, V0011, S001, V0111, S101⟩
  iapply wp_seq
  iapply (part19_spec m ρ K c ) $$ [W0020 HO W0120 W0021]
  · isplitr; · iexact HR
    isplitl [W0020]; · iexact W0020
    isplitl [HO]; · iexact HO
    isplitl [W0120]; · iexact W0120
    iexact W0021
  iintro ⟨HO, V0020, S010, V0120, S110, V0021, S011⟩
  iapply wp_seq
  iapply (part20_spec m ρ K c v2 XA) $$ [W0121 HO S020 S021 S120 S121 Ha]
  · isplitr; · iexact HR
    isplitl [W0121]; · iexact W0121
    isplitl [HO]; · iexact HO
    isplitl [S020]; · iexact S020
    isplitl [S021]; · iexact S021
    isplitl [S120]; · iexact S120
    isplitl [S121]; · iexact S121
    iexact Ha
  iintro %v550 %v551 ⟨HO, S020, S021, S120, S121, V0121, S111, A0, A1, A2⟩
  iapply wp_seq
  iapply (part21_spec m ρ K c v2 v550 v551) $$ [X0 A0 P0 HO X1 A1 P1]
  · isplitr; · iexact HR
    isplitl [X0]; · iexact X0
    isplitl [A0]; · iexact A0
    isplitl [P0]; · iexact P0
    isplitl [HO]; · iexact HO
    isplitl [X1]; · iexact X1
    isplitl [A1]; · iexact A1
    iexact P1
  iintro %v558 %v577 ⟨HO, WX00, WX01⟩
  iapply wp_seq
  iapply (part22_spec m ρ K c v2 v558) $$ [X2 A2 P2 HO WX00 WX10]
  · isplitr; · iexact HR
    isplitl [X2]; · iexact X2
    isplitl [A2]; · iexact A2
    isplitl [P2]; · iexact P2
    isplitl [HO]; · iexact HO
    isplitl [WX00]; · iexact WX00
    iexact WX10
  iintro %v596 ⟨HO, WX02, VX00, A0, VX10, M1⟩
  iapply wp_seq
  iapply (part23_spec m ρ K c v577 v596) $$ [WX01 HO WX11 WX02 WX12 M1]
  · isplitr; · iexact HR
    isplitl [WX01]; · iexact WX01
    isplitl [HO]; · iexact HO
    isplitl [WX11]; · iexact WX11
    isplitl [WX02]; · iexact WX02
    isplitl [WX12]; · iexact WX12
    iexact M1
  iintro ⟨HO, M1, VX01, A1, VX11, M2, VX02, A2, VX12, M3⟩
  iapply (wp_load_corner c 3 (mval m ρ (sh 1 c)) rfl rfl) $$ M3
  iintro M3
  iapply (wp_load_held c oM XO _ rfl) $$ Ho
  iintro Ho
  iapply (wp_store_stg c 0 XO (outL m ρ c)) $$ Ho
  iintro Ho
  iapply (wp_load_held c oM _ _ rfl) $$ Ho
  iintro Ho
  iapply (wp_store_stg c 1024 _ (outR m ρ c)) $$ Ho
  iintro Ho
  rw [write_right m ρ c _ _ (write_left c _ XO (outL m ρ c))]
  iapply wp_done
  iapply Hk
  isplitl [VB]; · iexact VB
  isplitl [Hx]; · iexact Hx
  isplitl [Hw]; · iexact Hw
  isplitl [Ho]; · iexact Ho
  isplitl [HO]; · iexact HO
  isplitl [V1000]; · iexact V1000
  isplitl [V1100]; · iexact V1100
  isplitl [V1001]; · iexact V1001
  isplitl [V1101]; · iexact V1101
  isplitl [V1010]; · iexact V1010
  isplitl [V1110]; · iexact V1110
  isplitl [V1011]; · iexact V1011
  isplitl [V1111]; · iexact V1111
  isplitl [V1020]; · iexact V1020
  isplitl [S020]; · iexact S020
  isplitl [V1120]; · iexact V1120
  isplitl [S120]; · iexact S120
  isplitl [V1021]; · iexact V1021
  isplitl [S021]; · iexact S021
  isplitl [V1121]; · iexact V1121
  isplitl [S121]; · iexact S121
  isplitl [V0000]; · iexact V0000
  isplitl [S030]; · iexact S030
  isplitl [V0100]; · iexact V0100
  isplitl [S130]; · iexact S130
  isplitl [V0001]; · iexact V0001
  isplitl [S031]; · iexact S031
  isplitl [V0101]; · iexact V0101
  isplitl [S131]; · iexact S131
  isplitl [V0010]; · iexact V0010
  isplitl [S000]; · iexact S000
  isplitl [V0110]; · iexact V0110
  isplitl [S100]; · iexact S100
  isplitl [V0011]; · iexact V0011
  isplitl [S001]; · iexact S001
  isplitl [V0111]; · iexact V0111
  isplitl [S101]; · iexact S101
  isplitl [V0020]; · iexact V0020
  isplitl [S010]; · iexact S010
  isplitl [V0120]; · iexact V0120
  isplitl [S110]; · iexact S110
  isplitl [V0021]; · iexact V0021
  isplitl [S011]; · iexact S011
  isplitl [V0121]; · iexact V0121
  isplitl [S111]; · iexact S111
  isplitl [VX00]; · iexact VX00
  isplitl [A0]; · iexact A0
  isplitl [VX10]; · iexact VX10
  isplitl [M1]; · iexact M1
  isplitl [VX01]; · iexact VX01
  isplitl [A1]; · iexact A1
  isplitl [VX11]; · iexact VX11
  isplitl [M2]; · iexact M2
  isplitl [VX02]; · iexact VX02
  isplitl [A2]; · iexact A2
  isplitl [VX12]; · iexact VX12
  iexact M3

end Cert.RingProof

end
-- ==== Proof.Slots.lean ====
/-
# The slots of the buffers

A ring buffer is its eight tiles, the buffer of the maxima its four slots.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

variable {m ρ} in
theorem slabAny_raw (d : Bool) (k : Fin 4) (t : Fin 2) (c : Dev nD) :
    slabAny (F := F) d k t c ⊢ iprop(∃ f : Buf (Elt F) ((commM d).view.loc (c : Thread nD τ)), (commM d).view.loc (c : Thread nD τ) ↦[(hopM d k t).view.set]{fullShare} f) := by
  unfold slabAny slab
  iintro ⟨%X, %f, -, H⟩
  iexists f; iexact H
theorem raw_slabAny (d : Bool) (k : Fin 4) (t : Fin 2) (c : Dev nD) (f : Buf (Elt F) ((commM d).view.loc (c : Thread nD τ))) :
    ((commM d).view.loc (c : Thread nD τ) ↦[(hopM d k t).view.set]{fullShare} f) ⊢ slabAny (F := F) d k t c := by
  unfold slabAny slab
  iintro H
  iexists _; iexists f
  isplitr; · ipureintro; rfl
  iexact H

/-- The elements of a tile, of a slot. -/
abbrev slabI (d : Bool) (b : Fin 4 × Fin 2) : Finset (commM d).view.ty.Idx := (hopM d b.1 b.2).view.set
abbrev mslotI (b : Fin 4) : Finset rM.view.ty.Idx := (mxM b).view.set

theorem comm_set_univ (d : Bool) : (commM d).view.set = Finset.univ := by cases d <;> exact View.set_whole _

theorem slabs_disjoint (d : Bool) (b b' : Fin 4 × Fin 2) (h : b ≠ b') : Disjoint (slabI d b) (slabI d b') := by
  show Disjoint (hopM d b.1 b.2).view.set (hopM d b'.1 b'.2).view.set
  rw [slab_set, slab_set]
  exact (Finset.disjoint_map _).mpr (tiles_disjoint _ _ _ _ h)
theorem slabs_cover (d : Bool) : Finset.univ.biUnion (slabI d) = Finset.univ := by
  refine Finset.eq_univ_iff_forall.mpr fun j => ?_
  have hj : j ∈ (commM d).view.set := by rw [comm_set_univ]; exact Finset.mem_univ j
  obtain ⟨i, -, rfl⟩ := Finset.mem_map.mp hj
  have i0 : (i 0).val < 4 := (i 0).isLt
  have i1 : (i 1).val < 1024 := (i 1).isLt
  have i2 : (i 2).val < 1024 := (i 2).isLt
  have key : ∀ t : Fin 2, col t ≤ (i 2).val → (i 2).val < col t + 512 → (commM d).view.emb i ∈ Finset.univ.biUnion (slabI d) := by
    intro t h1 h2
    refine Finset.mem_biUnion.mpr ⟨(⟨(i 0).val, i0⟩, t), Finset.mem_univ _, ?_⟩
    show (commM d).view.emb i ∈ (hopM d ⟨(i 0).val, i0⟩ t).view.set
    rw [slab_set]
    refine Finset.mem_map_of_mem _ ((Rect.mem_set_unit ..).mpr fun a => ?_)
    fin_cases a
    · show (i 0).val ≤ (i 0).val ∧ (i 0).val < (i 0).val + 1; omega
    · show 0 ≤ (i 1).val ∧ (i 1).val < 0 + 1024; omega
    · show col t ≤ (i 2).val ∧ (i 2).val < col t + 512; exact ⟨h1, h2⟩
  by_cases h : (i 2).val < 512
  · exact key 0 (Nat.zero_le _) (by show _ < 0 + 512; omega)
  · exact key 1 (by show 512 ≤ _; omega) (by show _ < 512 + 512; omega)

/-- A ring buffer split into its eight tiles, -/
theorem comm_split (d : Bool) (c : Dev nD) (f : Buf (Elt F) ((commM d).view.loc (c : Thread nD τ))) :
    ((commM d).view.loc (c : Thread nD τ) ↦{fullShare} f) ⊢ iprop(slabAny (F := F) d 0 0 c ∗ slabAny (F := F) d 0 1 c ∗ slabAny (F := F) d 1 0 c ∗ slabAny (F := F) d 1 1 c ∗ slabAny (F := F) d 2 0 c ∗ slabAny (F := F) d 2 1 c ∗ slabAny (F := F) d 3 0 c ∗ slabAny (F := F) d 3 1 c) := by
  rw [Ring.pointsTo_blocks (slabI d) (slabs_disjoint d) (slabs_cover d) f]
  have h : bigSep Finset.univ (fun b : Fin 4 × Fin 2 => slabAny (F := F) d b.1 b.2 c) ⊢ (iprop(slabAny (F := F) d 0 0 c ∗ slabAny (F := F) d 0 1 c ∗ slabAny (F := F) d 1 0 c ∗ slabAny (F := F) d 1 1 c ∗ slabAny (F := F) d 2 0 c ∗ slabAny (F := F) d 2 1 c ∗ slabAny (F := F) d 3 0 c ∗ slabAny (F := F) d 3 1 c) : sProp 𝕄) := by
    rw [bigSep_univ_eq_bigSepL ([(0, 0), (0, 1), (1, 0), (1, 1), (2, 0), (2, 1), (3, 0), (3, 1)] : List (Fin 4 × Fin 2)) (by decide) (by decide)]
    simp only [bigSepL_cons_cons, bigSepL_singleton]
    exact Entails.of_eq rfl
  exact BIBase.Entails.trans (bigSep_mono fun b _ => raw_slabAny d b.1 b.2 c f) h
/-- and put together again. -/
theorem comm_join (d : Bool) (c : Dev nD) :
    iprop(slabAny (F := F) d 0 0 c ∗ slabAny (F := F) d 0 1 c ∗ slabAny (F := F) d 1 0 c ∗ slabAny (F := F) d 1 1 c ∗ slabAny (F := F) d 2 0 c ∗ slabAny (F := F) d 2 1 c ∗ slabAny (F := F) d 3 0 c ∗ slabAny (F := F) d 3 1 c) ⊢ iprop(∃ f : Buf (Elt F) ((commM d).view.loc (c : Thread nD τ)), (commM d).view.loc (c : Thread nD τ) ↦{fullShare} f) := by
  have h : (iprop(slabAny (F := F) d 0 0 c ∗ slabAny (F := F) d 0 1 c ∗ slabAny (F := F) d 1 0 c ∗ slabAny (F := F) d 1 1 c ∗ slabAny (F := F) d 2 0 c ∗ slabAny (F := F) d 2 1 c ∗ slabAny (F := F) d 3 0 c ∗ slabAny (F := F) d 3 1 c) : sProp 𝕄) ⊢ bigSep Finset.univ (fun b : Fin 4 × Fin 2 => slabAny (F := F) d b.1 b.2 c) := by
    rw [bigSep_univ_eq_bigSepL ([(0, 0), (0, 1), (1, 0), (1, 1), (2, 0), (2, 1), (3, 0), (3, 1)] : List (Fin 4 × Fin 2)) (by decide) (by decide)]
    simp only [bigSepL_cons_cons, bigSepL_singleton]
    exact Entails.of_eq rfl
  have h2 (f₀ : Buf (Elt F) ((commM d).view.loc (c : Thread nD τ))) := Ring.pointsTo_blocks_join_exists (Ix := Unit) (Name := ℕ) (U := UU) (Lvl := ℕ) (q := fullShare) (slabI d) (slabs_disjoint d) (slabs_cover d) f₀
  have h3 (f₀ : Buf (Elt F) ((commM d).view.loc (c : Thread nD τ))) := (h.trans (bigSep_mono fun b _ => slabAny_raw d b.1 b.2 c)).trans (h2 f₀)
  iintro ⟨H0, HR⟩
  ihave H0' := (Entails.of_eq (show slabAny (F := F) d 0 0 c = iprop(∃ X, slab d 0 0 c X) from rfl)) $$ H0
  icases H0' with ⟨%X, H0⟩
  ihave H0' := (Entails.of_eq (show slab (F := F) d 0 0 c X = _ from by unfold slab; rfl)) $$ H0
  icases H0' with ⟨%f, %hf, H0⟩
  iapply (h3 f)
  isplitl [H0]
  · iapply (raw_slabAny d 0 0 c f); iexact H0
  iexact HR

/-! ## The slots of the maxima -/

theorem mslotAny_raw (k : Fin 4) (c : Dev nD) :
    mslotAny (F := F) k c ⊢ iprop(∃ f : Buf (Elt F) (rM.view.loc (c : Thread nD τ)), rM.view.loc (c : Thread nD τ) ↦[(mxM k).view.set]{fullShare} f) := by
  unfold mslotAny mslot
  iintro ⟨%X, %f, -, H⟩
  iexists f; iexact H
theorem raw_mslotAny (k : Fin 4) (c : Dev nD) (f : Buf (Elt F) (rM.view.loc (c : Thread nD τ))) :
    (rM.view.loc (c : Thread nD τ) ↦[(mxM k).view.set]{fullShare} f) ⊢ mslotAny (F := F) k c := by
  unfold mslotAny mslot
  iintro H
  iexists _; iexists f
  isplitr; · ipureintro; rfl
  iexact H
theorem mslots_disjoint (b b' : Fin 4) (h : b ≠ b') : Disjoint (mslotI b) (mslotI b') := by
  show Disjoint (mxM b).view.set (mxM b').view.set
  rw [mslot_set, mslot_set]
  refine (Finset.disjoint_map _).mpr (Finset.disjoint_left.mpr fun i hi hi' => ?_)
  rw [Rect.mem_set_unit] at hi hi'
  have a0 : b.val ≤ (i 0).val ∧ (i 0).val < b.val + 1 := hi 0
  have b0 : b'.val ≤ (i 0).val ∧ (i 0).val < b'.val + 1 := hi' 0
  exact h (Fin.ext (by omega))
theorem mslots_cover : Finset.univ.biUnion mslotI = Finset.univ := by
  refine Finset.eq_univ_iff_forall.mpr fun j => ?_
  have hj : j ∈ rM.view.set := by rw [show rM.view.set = Finset.univ from View.set_whole _]; exact Finset.mem_univ j
  obtain ⟨i, -, rfl⟩ := Finset.mem_map.mp hj
  have i0 : (i 0).val < 4 := (i 0).isLt
  have i1 : (i 1).val < 8 := (i 1).isLt
  have i2 : (i 2).val < 128 := (i 2).isLt
  refine Finset.mem_biUnion.mpr ⟨⟨(i 0).val, i0⟩, Finset.mem_univ _, ?_⟩
  show rM.view.emb i ∈ (mxM ⟨(i 0).val, i0⟩).view.set
  rw [mslot_set]
  refine Finset.mem_map_of_mem _ ((Rect.mem_set_unit ..).mpr fun a => ?_)
  fin_cases a
  · show (i 0).val ≤ (i 0).val ∧ (i 0).val < (i 0).val + 1; omega
  · show 0 ≤ (i 1).val ∧ (i 1).val < 0 + 8; omega
  · show 0 ≤ (i 2).val ∧ (i 2).val < 0 + 128; omega

/-- The buffer of the maxima split into its four slots, -/
theorem max_split (c : Dev nD) (f : Buf (Elt F) (rM.view.loc (c : Thread nD τ))) :
    (rM.view.loc (c : Thread nD τ) ↦{fullShare} f) ⊢ iprop(mslotAny (F := F) 0 c ∗ mslotAny (F := F) 1 c ∗ mslotAny (F := F) 2 c ∗ mslotAny (F := F) 3 c) := by
  rw [Ring.pointsTo_blocks mslotI mslots_disjoint mslots_cover f]
  have h : bigSep Finset.univ (fun b : Fin 4 => mslotAny (F := F) b c) ⊢ (iprop(mslotAny (F := F) 0 c ∗ mslotAny (F := F) 1 c ∗ mslotAny (F := F) 2 c ∗ mslotAny (F := F) 3 c) : sProp 𝕄) := by
    rw [bigSep_univ_eq_bigSepL ([0, 1, 2, 3] : List (Fin 4)) (by decide) (by decide)]
    simp only [bigSepL_cons_cons, bigSepL_singleton]
    exact Entails.of_eq rfl
  exact BIBase.Entails.trans (bigSep_mono fun b _ => raw_mslotAny b c f) h
/-- and put together again. -/
theorem max_join (c : Dev nD) :
    iprop(mslotAny (F := F) 0 c ∗ mslotAny (F := F) 1 c ∗ mslotAny (F := F) 2 c ∗ mslotAny (F := F) 3 c)
      ⊢ iprop(∃ f : Buf (Elt F) (rM.view.loc (c : Thread nD τ)), rM.view.loc (c : Thread nD τ) ↦{fullShare} f) := by
  have h : (iprop(mslotAny (F := F) 0 c ∗ mslotAny (F := F) 1 c ∗ mslotAny (F := F) 2 c ∗ mslotAny (F := F) 3 c) : sProp 𝕄) ⊢ bigSep Finset.univ (fun b : Fin 4 => mslotAny (F := F) b c) := by
    rw [bigSep_univ_eq_bigSepL ([0, 1, 2, 3] : List (Fin 4)) (by decide) (by decide)]
    simp only [bigSepL_cons_cons, bigSepL_singleton]
    exact Entails.of_eq rfl
  have h2 (f₀ : Buf (Elt F) (rM.view.loc (c : Thread nD τ))) := Ring.pointsTo_blocks_join_exists (Ix := Unit) (Name := ℕ) (U := UU) (Lvl := ℕ) (q := fullShare) mslotI mslots_disjoint mslots_cover f₀
  have h3 (f₀ : Buf (Elt F) (rM.view.loc (c : Thread nD τ))) := (h.trans (bigSep_mono fun b _ => mslotAny_raw b c)).trans (h2 f₀)
  iintro ⟨H0, HR⟩
  ihave H0' := (mslotAny_raw 0 c) $$ H0
  icases H0' with ⟨%f, H0⟩
  iapply (h3 f)
  isplitl [H0]
  · iapply (raw_mslotAny 0 c f); iexact H0
  iexact HR

end Cert.RingProof

end
-- ==== Proof.Oblig.lean ====
/-
# What the launch deals to a device, and the body's triple

From what the launch hands a device to what the pipeline asks back.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-! ## What the launch deals -/

/-- A device's own transfer semaphores. -/
def osem : Kd → SemLoc sig := fun k => locOf (some k)

/-- The duties of a device's own cells, and which device's cell of the same name a device pays into. -/
def tokK : Kd ⊕ Bool → Option Kd | .inl k => some k | .inr _ => none
def tokB : Kd ⊕ Bool → Bool | .inl _ => false | .inr b => b
def tokTo : Kd ⊕ Bool → Dev nD → Dev nD
  | .inl (.hop true d _ _), c => target d c
  | .inl (.mx true o), c => sh (o.val + 1) c
  | .inl _, c => c
  | .inr b, c => (Pay.bar b).to c

def payToks (c : Dev nD) : sProp 𝕄 := bigSep Finset.univ fun j : Kd ⊕ Bool => dutyTok ER (cell (tokTo j c) (tokK j)) 0 (tokB j)
def linear (c : Dev nD) : sProp 𝕄 := iprop((bigSep Finset.univ fun k : Option Kd => atPos ER (cell c k) 0 ∅ 0) ∗ payToks c)

/-- What a device is owed on its cells at the start. -/
def amtK : Option Kd → ℕ | none => 2 | some k => kamt k
def recvL : List (Option Kd) := [none, some (.hop true false 0 0), some (.hop true false 0 1), some (.hop true false 1 0), some (.hop true false 1 1), some (.hop true false 2 0), some (.hop true false 2 1), some (.hop true true 0 0), some (.hop true true 0 1), some (.hop true true 1 0), some (.hop true true 1 1), some (.hop true true 2 0), some (.hop true true 2 1), some (.mx true 0), some (.mx true 1), some (.mx true 2)]
def creds (c : Dev nD) : sProp 𝕄 := bigSepL recvL fun k => cred (tallyAt (cell c k) () (amtK k))

def start (c : Dev nD) : sProp 𝕄 := iprop((∃ K, recs m ρ K) ∗ linear c ∗ creds c)

set_option synthInstance.maxHeartbeats 400000 in
set_option synthInstance.maxSize 4096 in
/-- The tokens as the body takes them. -/
theorem start_tokens (c : Dev nD) : iprop(linear (F := F) c ∗ creds c) ⊢ iprop(btok c ∗ dutyTok ER (cell (prv c) none) 0 true ∗ dutyTok ER (cell (nxt c) none) 0 false ∗ stok false 0 0 c ∗ wtok (.hop true false 0 0) c ∗ stok false 1 0 c ∗ wtok (.hop true false 1 0) c ∗ stok false 2 0 c ∗ wtok (.hop true false 2 0) c ∗ stok false 0 1 c ∗ wtok (.hop true false 0 1) c ∗ stok false 1 1 c ∗ wtok (.hop true false 1 1) c ∗ stok false 2 1 c ∗ wtok (.hop true false 2 1) c ∗ stok true 0 0 c ∗ wtok (.hop true true 0 0) c ∗ stok true 1 0 c ∗ wtok (.hop true true 1 0) c ∗ stok true 2 0 c ∗ wtok (.hop true true 2 0) c ∗ stok true 0 1 c ∗ wtok (.hop true true 0 1) c ∗ stok true 1 1 c ∗ wtok (.hop true true 1 1) c ∗ stok true 2 1 c ∗ wtok (.hop true true 2 1) c ∗ mtok 0 c ∗ wtok (.mx true 0) c ∗ mtok 1 c ∗ wtok (.mx true 1) c ∗ mtok 2 c ∗ wtok (.mx true 2) c) := by
  unfold linear creds payToks recvL
  rw [bigSep_univ_eq_bigSepL ([none, some (.hop false false 0 0), some (.hop false false 0 1), some (.hop false false 1 0), some (.hop false false 1 1), some (.hop false false 2 0), some (.hop false false 2 1), some (.hop true false 0 0), some (.hop true false 0 1), some (.hop true false 1 0), some (.hop true false 1 1), some (.hop true false 2 0), some (.hop true false 2 1), some (.hop false true 0 0), some (.hop false true 0 1), some (.hop false true 1 0), some (.hop false true 1 1), some (.hop false true 2 0), some (.hop false true 2 1), some (.hop true true 0 0), some (.hop true true 0 1), some (.hop true true 1 0), some (.hop true true 1 1), some (.hop true true 2 0), some (.hop true true 2 1), some (.mx false 0), some (.mx false 1), some (.mx false 2), some (.mx true 0), some (.mx true 1), some (.mx true 2)] : List (Option Kd)) (by decide) (by decide),
    bigSep_univ_eq_bigSepL ([.inl (.hop false false 0 0), .inl (.hop false false 0 1), .inl (.hop false false 1 0), .inl (.hop false false 1 1), .inl (.hop false false 2 0), .inl (.hop false false 2 1), .inl (.hop true false 0 0), .inl (.hop true false 0 1), .inl (.hop true false 1 0), .inl (.hop true false 1 1), .inl (.hop true false 2 0), .inl (.hop true false 2 1), .inl (.hop false true 0 0), .inl (.hop false true 0 1), .inl (.hop false true 1 0), .inl (.hop false true 1 1), .inl (.hop false true 2 0), .inl (.hop false true 2 1), .inl (.hop true true 0 0), .inl (.hop true true 0 1), .inl (.hop true true 1 0), .inl (.hop true true 1 1), .inl (.hop true true 2 0), .inl (.hop true true 2 1), .inl (.mx false 0), .inl (.mx false 1), .inl (.mx false 2), .inl (.mx true 0), .inl (.mx true 1), .inl (.mx true 2), .inr false, .inr true] : List (Kd ⊕ Bool)) (by decide) (by decide)]
  simp only [bigSepL_cons_cons, bigSepL_singleton]
  have h : iprop(((atPos ER (cell c none) 0 ∅ 0 ∗ atPos ER (cell c (some (.hop false false 0 0))) 0 ∅ 0 ∗ atPos ER (cell c (some (.hop false false 0 1))) 0 ∅ 0 ∗ atPos ER (cell c (some (.hop false false 1 0))) 0 ∅ 0 ∗ atPos ER (cell c (some (.hop false false 1 1))) 0 ∅ 0 ∗ atPos ER (cell c (some (.hop false false 2 0))) 0 ∅ 0 ∗ atPos ER (cell c (some (.hop false false 2 1))) 0 ∅ 0 ∗ atPos ER (cell c (some (.hop true false 0 0))) 0 ∅ 0 ∗ atPos ER (cell c (some (.hop true false 0 1))) 0 ∅ 0 ∗ atPos ER (cell c (some (.hop true false 1 0))) 0 ∅ 0 ∗ atPos ER (cell c (some (.hop true false 1 1))) 0 ∅ 0 ∗ atPos ER (cell c (some (.hop true false 2 0))) 0 ∅ 0 ∗ atPos ER (cell c (some (.hop true false 2 1))) 0 ∅ 0 ∗ atPos ER (cell c (some (.hop false true 0 0))) 0 ∅ 0 ∗ atPos ER (cell c (some (.hop false true 0 1))) 0 ∅ 0 ∗ atPos ER (cell c (some (.hop false true 1 0))) 0 ∅ 0 ∗ atPos ER (cell c (some (.hop false true 1 1))) 0 ∅ 0 ∗ atPos ER (cell c (some (.hop false true 2 0))) 0 ∅ 0 ∗ atPos ER (cell c (some (.hop false true 2 1))) 0 ∅ 0 ∗ atPos ER (cell c (some (.hop true true 0 0))) 0 ∅ 0 ∗ atPos ER (cell c (some (.hop true true 0 1))) 0 ∅ 0 ∗ atPos ER (cell c (some (.hop true true 1 0))) 0 ∅ 0 ∗ atPos ER (cell c (some (.hop true true 1 1))) 0 ∅ 0 ∗ atPos ER (cell c (some (.hop true true 2 0))) 0 ∅ 0 ∗ atPos ER (cell c (some (.hop true true 2 1))) 0 ∅ 0 ∗ atPos ER (cell c (some (.mx false 0))) 0 ∅ 0 ∗ atPos ER (cell c (some (.mx false 1))) 0 ∅ 0 ∗ atPos ER (cell c (some (.mx false 2))) 0 ∅ 0 ∗ atPos ER (cell c (some (.mx true 0))) 0 ∅ 0 ∗ atPos ER (cell c (some (.mx true 1))) 0 ∅ 0 ∗ atPos ER (cell c (some (.mx true 2))) 0 ∅ 0) ∗ (dutyTok ER (cell c (some (.hop false false 0 0))) 0 false ∗ dutyTok ER (cell c (some (.hop false false 0 1))) 0 false ∗ dutyTok ER (cell c (some (.hop false false 1 0))) 0 false ∗ dutyTok ER (cell c (some (.hop false false 1 1))) 0 false ∗ dutyTok ER (cell c (some (.hop false false 2 0))) 0 false ∗ dutyTok ER (cell c (some (.hop false false 2 1))) 0 false ∗ dutyTok ER (cell (target false c) (some (.hop true false 0 0))) 0 false ∗ dutyTok ER (cell (target false c) (some (.hop true false 0 1))) 0 false ∗ dutyTok ER (cell (target false c) (some (.hop true false 1 0))) 0 false ∗ dutyTok ER (cell (target false c) (some (.hop true false 1 1))) 0 false ∗ dutyTok ER (cell (target false c) (some (.hop true false 2 0))) 0 false ∗ dutyTok ER (cell (target false c) (some (.hop true false 2 1))) 0 false ∗ dutyTok ER (cell c (some (.hop false true 0 0))) 0 false ∗ dutyTok ER (cell c (some (.hop false true 0 1))) 0 false ∗ dutyTok ER (cell c (some (.hop false true 1 0))) 0 false ∗ dutyTok ER (cell c (some (.hop false true 1 1))) 0 false ∗ dutyTok ER (cell c (some (.hop false true 2 0))) 0 false ∗ dutyTok ER (cell c (some (.hop false true 2 1))) 0 false ∗ dutyTok ER (cell (target true c) (some (.hop true true 0 0))) 0 false ∗ dutyTok ER (cell (target true c) (some (.hop true true 0 1))) 0 false ∗ dutyTok ER (cell (target true c) (some (.hop true true 1 0))) 0 false ∗ dutyTok ER (cell (target true c) (some (.hop true true 1 1))) 0 false ∗ dutyTok ER (cell (target true c) (some (.hop true true 2 0))) 0 false ∗ dutyTok ER (cell (target true c) (some (.hop true true 2 1))) 0 false ∗ dutyTok ER (cell c (some (.mx false 0))) 0 false ∗ dutyTok ER (cell c (some (.mx false 1))) 0 false ∗ dutyTok ER (cell c (some (.mx false 2))) 0 false ∗ dutyTok ER (cell (sh 1 c) (some (.mx true 0))) 0 false ∗ dutyTok ER (cell (sh 2 c) (some (.mx true 1))) 0 false ∗ dutyTok ER (cell (sh 3 c) (some (.mx true 2))) 0 false ∗ dutyTok ER (cell (nxt c) none) 0 false ∗ dutyTok ER (cell (prv c) none) 0 true)) ∗ (cred (tallyAt (cell c none) () 2) ∗ cred (tallyAt (cell c (some (.hop true false 0 0))) () (kamt (.hop true false 0 0))) ∗ cred (tallyAt (cell c (some (.hop true false 0 1))) () (kamt (.hop true false 0 1))) ∗ cred (tallyAt (cell c (some (.hop true false 1 0))) () (kamt (.hop true false 1 0))) ∗ cred (tallyAt (cell c (some (.hop true false 1 1))) () (kamt (.hop true false 1 1))) ∗ cred (tallyAt (cell c (some (.hop true false 2 0))) () (kamt (.hop true false 2 0))) ∗ cred (tallyAt (cell c (some (.hop true false 2 1))) () (kamt (.hop true false 2 1))) ∗ cred (tallyAt (cell c (some (.hop true true 0 0))) () (kamt (.hop true true 0 0))) ∗ cred (tallyAt (cell c (some (.hop true true 0 1))) () (kamt (.hop true true 0 1))) ∗ cred (tallyAt (cell c (some (.hop true true 1 0))) () (kamt (.hop true true 1 0))) ∗ cred (tallyAt (cell c (some (.hop true true 1 1))) () (kamt (.hop true true 1 1))) ∗ cred (tallyAt (cell c (some (.hop true true 2 0))) () (kamt (.hop true true 2 0))) ∗ cred (tallyAt (cell c (some (.hop true true 2 1))) () (kamt (.hop true true 2 1))) ∗ cred (tallyAt (cell c (some (.mx true 0))) () (kamt (.mx true 0))) ∗ cred (tallyAt (cell c (some (.mx true 1))) () (kamt (.mx true 1))) ∗ cred (tallyAt (cell c (some (.mx true 2))) () (kamt (.mx true 2))))) ⊢ (iprop(btok c ∗ dutyTok ER (cell (prv c) none) 0 true ∗ dutyTok ER (cell (nxt c) none) 0 false ∗ stok false 0 0 c ∗ wtok (.hop true false 0 0) c ∗ stok false 1 0 c ∗ wtok (.hop true false 1 0) c ∗ stok false 2 0 c ∗ wtok (.hop true false 2 0) c ∗ stok false 0 1 c ∗ wtok (.hop true false 0 1) c ∗ stok false 1 1 c ∗ wtok (.hop true false 1 1) c ∗ stok false 2 1 c ∗ wtok (.hop true false 2 1) c ∗ stok true 0 0 c ∗ wtok (.hop true true 0 0) c ∗ stok true 1 0 c ∗ wtok (.hop true true 1 0) c ∗ stok true 2 0 c ∗ wtok (.hop true true 2 0) c ∗ stok true 0 1 c ∗ wtok (.hop true true 0 1) c ∗ stok true 1 1 c ∗ wtok (.hop true true 1 1) c ∗ stok true 2 1 c ∗ wtok (.hop true true 2 1) c ∗ mtok 0 c ∗ wtok (.mx true 0) c ∗ mtok 1 c ∗ wtok (.mx true 1) c ∗ mtok 2 c ∗ wtok (.mx true 2) c) : sProp 𝕄) := by
    iintro ⟨⟨⟨aN, a0000, a0001, a0010, a0011, a0020, a0021, a1000, a1001, a1010, a1011, a1020, a1021, a0100, a0101, a0110, a0111, a0120, a0121, a1100, a1101, a1110, a1111, a1120, a1121, aX00, aX01, aX02, aX10, aX11, aX12⟩, k0000, k0001, k0010, k0011, k0020, k0021, k1000, k1001, k1010, k1011, k1020, k1021, k0100, k0101, k0110, k0111, k0120, k0121, k1100, k1101, k1110, k1111, k1120, k1121, kX00, kX01, kX02, kX10, kX11, kX12, kf, kt⟩, cN, c1000, c1001, c1010, c1011, c1020, c1021, c1100, c1101, c1110, c1111, c1120, c1121, cX10, cX11, cX12⟩
    isplitl [aN cN]
    · unfold btok
      isplitl [aN]; · iexact aN
      iexact cN
    isplitl [kt]
    · iexact kt
    isplitl [kf]
    · iexact kf
    isplitl [k0000 k1000 a0000]
    · unfold stok
      isplitl [k0000]; · iexact k0000
      isplitl [k1000]; · iexact k1000
      iexact a0000
    isplitl [a1000 c1000]
    · unfold wtok
      isplitl [a1000]; · iexact a1000
      iexact c1000
    isplitl [k0010 k1010 a0010]
    · unfold stok
      isplitl [k0010]; · iexact k0010
      isplitl [k1010]; · iexact k1010
      iexact a0010
    isplitl [a1010 c1010]
    · unfold wtok
      isplitl [a1010]; · iexact a1010
      iexact c1010
    isplitl [k0020 k1020 a0020]
    · unfold stok
      isplitl [k0020]; · iexact k0020
      isplitl [k1020]; · iexact k1020
      iexact a0020
    isplitl [a1020 c1020]
    · unfold wtok
      isplitl [a1020]; · iexact a1020
      iexact c1020
    isplitl [k0001 k1001 a0001]
    · unfold stok
      isplitl [k0001]; · iexact k0001
      isplitl [k1001]; · iexact k1001
      iexact a0001
    isplitl [a1001 c1001]
    · unfold wtok
      isplitl [a1001]; · iexact a1001
      iexact c1001
    isplitl [k0011 k1011 a0011]
    · unfold stok
      isplitl [k0011]; · iexact k0011
      isplitl [k1011]; · iexact k1011
      iexact a0011
    isplitl [a1011 c1011]
    · unfold wtok
      isplitl [a1011]; · iexact a1011
      iexact c1011
    isplitl [k0021 k1021 a0021]
    · unfold stok
      isplitl [k0021]; · iexact k0021
      isplitl [k1021]; · iexact k1021
      iexact a0021
    isplitl [a1021 c1021]
    · unfold wtok
      isplitl [a1021]; · iexact a1021
      iexact c1021
    isplitl [k0100 k1100 a0100]
    · unfold stok
      isplitl [k0100]; · iexact k0100
      isplitl [k1100]; · iexact k1100
      iexact a0100
    isplitl [a1100 c1100]
    · unfold wtok
      isplitl [a1100]; · iexact a1100
      iexact c1100
    isplitl [k0110 k1110 a0110]
    · unfold stok
      isplitl [k0110]; · iexact k0110
      isplitl [k1110]; · iexact k1110
      iexact a0110
    isplitl [a1110 c1110]
    · unfold wtok
      isplitl [a1110]; · iexact a1110
      iexact c1110
    isplitl [k0120 k1120 a0120]
    · unfold stok
      isplitl [k0120]; · iexact k0120
      isplitl [k1120]; · iexact k1120
      iexact a0120
    isplitl [a1120 c1120]
    · unfold wtok
      isplitl [a1120]; · iexact a1120
      iexact c1120
    isplitl [k0101 k1101 a0101]
    · unfold stok
      isplitl [k0101]; · iexact k0101
      isplitl [k1101]; · iexact k1101
      iexact a0101
    isplitl [a1101 c1101]
    · unfold wtok
      isplitl [a1101]; · iexact a1101
      iexact c1101
    isplitl [k0111 k1111 a0111]
    · unfold stok
      isplitl [k0111]; · iexact k0111
      isplitl [k1111]; · iexact k1111
      iexact a0111
    isplitl [a1111 c1111]
    · unfold wtok
      isplitl [a1111]; · iexact a1111
      iexact c1111
    isplitl [k0121 k1121 a0121]
    · unfold stok
      isplitl [k0121]; · iexact k0121
      isplitl [k1121]; · iexact k1121
      iexact a0121
    isplitl [a1121 c1121]
    · unfold wtok
      isplitl [a1121]; · iexact a1121
      iexact c1121
    isplitl [kX00 kX10 aX00]
    · unfold mtok
      isplitl [kX00]; · iexact kX00
      isplitl [kX10]; · iexact kX10
      iexact aX00
    isplitl [aX10 cX10]
    · unfold wtok
      isplitl [aX10]; · iexact aX10
      iexact cX10
    isplitl [kX01 kX11 aX01]
    · unfold mtok
      isplitl [kX01]; · iexact kX01
      isplitl [kX11]; · iexact kX11
      iexact aX01
    isplitl [aX11 cX11]
    · unfold wtok
      isplitl [aX11]; · iexact aX11
      iexact cX11
    isplitl [kX02 kX12 aX02]
    · unfold mtok
      isplitl [kX02]; · iexact kX02
      isplitl [kX12]; · iexact kX12
      iexact aX02
    unfold wtok
    isplitl [aX12]; · iexact aX12
    iexact cX12
  exact h

/-! ## The pipeline's data -/

def Φ₀ (c : Dev nD) : sProp 𝕄 := iprop(start m ρ c ∗ Pipeline.scopedRest cfg0.spec c)
def Φ₁ (c : Dev nD) : sProp 𝕄 := iprop(semVal (cell c none) 0 ∗ (bigSep Finset.univ fun k : Kd => semVal (cell c (some k)) 0) ∗ Pipeline.scopedRest cfg0.spec c)
def O₀ (c : Dev nD) : CellTallies nD τ sig Unit := owe c payList

/-- What the pipeline's windows hold and what the body is handed and hands back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_of (c : Dev nD) (b : Ref sig .tc) (X : b.ty.Contents (Elt F)) :
    ((((c : Thread nD τ).loc b) ↦{fullShare} (X : Buf (Elt F) (((c : Dev nD) : Thread nD τ).loc b))) : sProp 𝕄) ⊢ held (Memref.whole b) c X := Entails.of_eq rfl
theorem of_held (c : Dev nD) (b : Ref sig .tc) (X : b.ty.Contents (Elt F)) :
    held (Memref.whole b) c X ⊢ ((((c : Thread nD τ).loc b) ↦{fullShare} (X : Buf (Elt F) (((c : Dev nD) : Thread nD τ).loc b))) : sProp 𝕄) := Entails.of_eq rfl

set_option maxRecDepth 4000 in
/-- The body's point before, -/
def bodyPre (c : Dev nD) : sProp 𝕄 :=
  iprop(Φ₀ m ρ c ∗ (dats m ρ 0 c).owesAt () t0_0.castSucc
    ∗ (∃ d, stgE c cc0_stg0_0 ((dats m ρ 0 c).before (0 : Fin 3) t0_0 d))
    ∗ (∃ d, stgE c cc0_stg1_0 ((dats m ρ 0 c).before (1 : Fin 3) t0_0 d))
    ∗ (∃ d, stgE c cc0_stg2_0 ((dats m ρ 0 c).before (2 : Fin 3) t0_0 d)))
/-- and after. -/
def bodyPost (c : Dev nD) : sProp 𝕄 :=
  iprop(Φ₁ c ∗ (dats m ρ 0 c).owesAt () t0_0.succ ∗ stgE c cc0_stg0_0 (xstg m ρ c) ∗ stgE c cc0_stg1_0 (wstg m ρ c) ∗ stgE c cc0_stg2_0 (outAt m ρ c))

/-- The transfer cells of a device, all at rest, as one. -/
theorem rest_intro (c : Dev nD) : iprop(semVal (cell c (some (.hop false false 0 0))) 0 ∗ semVal (cell c (some (.hop false false 0 1))) 0 ∗ semVal (cell c (some (.hop false false 1 0))) 0 ∗ semVal (cell c (some (.hop false false 1 1))) 0 ∗ semVal (cell c (some (.hop false false 2 0))) 0 ∗ semVal (cell c (some (.hop false false 2 1))) 0 ∗ semVal (cell c (some (.hop true false 0 0))) 0 ∗ semVal (cell c (some (.hop true false 0 1))) 0 ∗ semVal (cell c (some (.hop true false 1 0))) 0 ∗ semVal (cell c (some (.hop true false 1 1))) 0 ∗ semVal (cell c (some (.hop true false 2 0))) 0 ∗ semVal (cell c (some (.hop true false 2 1))) 0 ∗ semVal (cell c (some (.hop false true 0 0))) 0 ∗ semVal (cell c (some (.hop false true 0 1))) 0 ∗ semVal (cell c (some (.hop false true 1 0))) 0 ∗ semVal (cell c (some (.hop false true 1 1))) 0 ∗ semVal (cell c (some (.hop false true 2 0))) 0 ∗ semVal (cell c (some (.hop false true 2 1))) 0 ∗ semVal (cell c (some (.hop true true 0 0))) 0 ∗ semVal (cell c (some (.hop true true 0 1))) 0 ∗ semVal (cell c (some (.hop true true 1 0))) 0 ∗ semVal (cell c (some (.hop true true 1 1))) 0 ∗ semVal (cell c (some (.hop true true 2 0))) 0 ∗ semVal (cell c (some (.hop true true 2 1))) 0 ∗ semVal (cell c (some (.mx false 0))) 0 ∗ semVal (cell c (some (.mx false 1))) 0 ∗ semVal (cell c (some (.mx false 2))) 0 ∗ semVal (cell c (some (.mx true 0))) 0 ∗ semVal (cell c (some (.mx true 1))) 0 ∗ semVal (cell c (some (.mx true 2))) 0) ⊢ (bigSep Finset.univ fun k : Kd => semVal (cell c (some k)) 0 : sProp 𝕄) := by
  rw [bigSep_univ_eq_bigSepL ([.hop false false 0 0, .hop false false 0 1, .hop false false 1 0, .hop false false 1 1, .hop false false 2 0, .hop false false 2 1, .hop true false 0 0, .hop true false 0 1, .hop true false 1 0, .hop true false 1 1, .hop true false 2 0, .hop true false 2 1, .hop false true 0 0, .hop false true 0 1, .hop false true 1 0, .hop false true 1 1, .hop false true 2 0, .hop false true 2 1, .hop true true 0 0, .hop true true 0 1, .hop true true 1 0, .hop true true 1 1, .hop true true 2 0, .hop true true 2 1, .mx false 0, .mx false 1, .mx false 2, .mx true 0, .mx true 1, .mx true 2] : List Kd) (by decide) (by decide)]
  simp only [bigSepL_cons_cons, bigSepL_singleton]
  exact Entails.of_eq rfl

theorem slab_any (d : Bool) (k : Fin 4) (t : Fin 2) (c : Dev nD) (X) : slab (F := F) d k t c X ⊢ slabAny d k t c := by
  unfold slabAny; iintro H; iexists X; iexact H
theorem mslot_any (k : Fin 4) (c : Dev nD) (X) : mslot (F := F) k c X ⊢ mslotAny k c := by
  unfold mslotAny; iintro H; iexists X; iexact H

theorem rest_scratch (c : Dev nD) : (Pipeline.scopedRest cfg0.spec c : sProp 𝕄)
    = iprop((∃ f, (commM false).view.loc (c : Thread nD τ) ↦{fullShare} f) ∗ (∃ f, (commM true).view.loc (c : Thread nD τ) ↦{fullShare} f)
      ∗ (∃ f, held aM c f) ∗ (∃ f, rM.view.loc (c : Thread nD τ) ↦{fullShare} f)) := scopedRest0_eq c

set_option maxRecDepth 4000 in
/-- The body's triple. -/
theorem body_triple (c : Dev nD) : bodyPre m ρ c ⊢ wpc c (cc0_body (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9) (fun _ => bodyPost m ρ c) := by
  unfold bodyPre Φ₀ start
  rw [rest_scratch]
  iintro ⟨⟨⟨⟨%K, #HR⟩, HT⟩, ⟨%f0, C0⟩, ⟨%f1, C1⟩, ⟨%XA, Ha⟩, ⟨%f3, C3⟩⟩, Hos, ⟨%d0, %g0, %hg0, Hx⟩, ⟨%d1, %g1, %hg1, Hw⟩, ⟨%d2, %XO, %hg2, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  ihave Hx := (held_of c cc0_stg0_0 _) $$ Hx
  ihave Hw := (held_of c cc0_stg1_0 _) $$ Hw
  ihave Ho := (held_of c cc0_stg2_0 _) $$ Ho
  unfold Dat.owesAt Pipeline.owesWithin
  icases Hos with ⟨%W, %hW, HOW⟩
  ihave HT' := (start_tokens c) $$ HT
  icases HT' with ⟨HB, DT, DF, T000, W1000, T010, W1010, T020, W1020, T001, W1001, T011, W1011, T021, W1021, T100, W1100, T110, W1110, T120, W1120, T101, W1101, T111, W1111, T121, W1121, X0, WX10, X1, WX11, X2, WX12⟩
  ihave C0' := (comm_split false c f0) $$ C0
  icases C0' with ⟨R000, R001, R010, R011, R020, R021, S030, S031⟩
  ihave C1' := (comm_split true c f1) $$ C1
  icases C1' with ⟨R100, R101, R110, R111, R120, R121, S130, S131⟩
  ihave C3' := (max_split c f3) $$ C3
  icases C3' with ⟨M0, G1, G2, G3⟩
  iapply (body_spec m ρ K c XA XO (Q := fun _ => bodyPost m ρ c)) $$ [HB DT DF R000 R001 R010 R011 R020 R021 R100 R101 R110 R111 R120 R121 G1 G2 G3 HOW Hx Hw Ha Ho S030 T000 W1000 T010 W1010 T020 W1020 S031 T001 W1001 T011 W1011 T021 W1021 S130 T100 W1100 T110 W1110 T120 W1120 S131 T101 W1101 T111 W1111 T121 W1121 X0 WX10 X1 WX11 X2 WX12]
  · isplitr; · iexact HR
    isplitl [HB]; · iexact HB
    isplitl [DT]; · iexact DT
    isplitl [DF]; · iexact DF
    isplitl [R000 R001 R010 R011 R020 R021]
    · unfold freeSlots
      isplitl [R000]; · iexact R000
      isplitl [R001]; · iexact R001
      isplitl [R010]; · iexact R010
      isplitl [R011]; · iexact R011
      isplitl [R020]; · iexact R020
      iexact R021
    isplitl [R100 R101 R110 R111 R120 R121]
    · unfold freeSlots
      isplitl [R100]; · iexact R100
      isplitl [R101]; · iexact R101
      isplitl [R110]; · iexact R110
      isplitl [R111]; · iexact R111
      isplitl [R120]; · iexact R120
      iexact R121
    isplitl [G1]; · iexact G1
    isplitl [G2]; · iexact G2
    isplitl [G3]; · iexact G3
    isplitl [HOW]; · unfold owesE; iexists W; iexact HOW
    isplitl [Hx]; · iexact Hx
    isplitl [Hw]; · iexact Hw
    isplitl [Ha]; · iexact Ha
    isplitl [Ho]; · iexact Ho
    isplitl [S030]; · iexact S030
    isplitl [T000]; · iexact T000
    isplitl [W1000]; · iexact W1000
    isplitl [T010]; · iexact T010
    isplitl [W1010]; · iexact W1010
    isplitl [T020]; · iexact T020
    isplitl [W1020]; · iexact W1020
    isplitl [S031]; · iexact S031
    isplitl [T001]; · iexact T001
    isplitl [W1001]; · iexact W1001
    isplitl [T011]; · iexact T011
    isplitl [W1011]; · iexact W1011
    isplitl [T021]; · iexact T021
    isplitl [W1021]; · iexact W1021
    isplitl [S130]; · iexact S130
    isplitl [T100]; · iexact T100
    isplitl [W1100]; · iexact W1100
    isplitl [T110]; · iexact T110
    isplitl [W1110]; · iexact W1110
    isplitl [T120]; · iexact T120
    isplitl [W1120]; · iexact W1120
    isplitl [S131]; · iexact S131
    isplitl [T101]; · iexact T101
    isplitl [W1101]; · iexact W1101
    isplitl [T111]; · iexact T111
    isplitl [W1111]; · iexact W1111
    isplitl [T121]; · iexact T121
    isplitl [W1121]; · iexact W1121
    isplitl [X0]; · iexact X0
    isplitl [WX10]; · iexact WX10
    isplitl [X1]; · iexact X1
    isplitl [WX11]; · iexact WX11
    isplitl [X2]; · iexact X2
    iexact WX12
  iintro ⟨VB, Hx, Hw, Ho, HO, V1000, V1100, V1001, V1101, V1010, V1110, V1011, V1111, V1020, S020, V1120, S120, V1021, S021, V1121, S121, V0000, S030, V0100, S130, V0001, S031, V0101, S131, V0010, S000, V0110, S100, V0011, S001, V0111, S101, V0020, S010, V0120, S110, V0021, S011, V0121, S111, VX00, A0, VX10, M1, VX01, A1, VX11, M2, VX02, A2, VX12, M3⟩
  unfold bodyPost Φ₁
  rw [rest_scratch]
  isplitl [VB M0 V1000 V1100 V1001 V1101 V1010 V1110 V1011 V1111 V1020 S020 V1120 S120 V1021 S021 V1121 S121 V0000 S030 V0100 S130 V0001 S031 V0101 S131 V0010 S000 V0110 S100 V0011 S001 V0111 S101 V0020 S010 V0120 S110 V0021 S011 V0121 S111 VX00 A0 VX10 M1 VX01 A1 VX11 M2 VX02 A2 VX12 M3]
  · isplitl [VB]; · iexact VB
    isplitl [V0000 V0001 V0010 V0011 V0020 V0021 V1000 V1001 V1010 V1011 V1020 V1021 V0100 V0101 V0110 V0111 V0120 V0121 V1100 V1101 V1110 V1111 V1120 V1121 VX00 VX01 VX02 VX10 VX11 VX12]
    · iapply (rest_intro c)
      isplitl [V0000]; · iexact V0000
      isplitl [V0001]; · iexact V0001
      isplitl [V0010]; · iexact V0010
      isplitl [V0011]; · iexact V0011
      isplitl [V0020]; · iexact V0020
      isplitl [V0021]; · iexact V0021
      isplitl [V1000]; · iexact V1000
      isplitl [V1001]; · iexact V1001
      isplitl [V1010]; · iexact V1010
      isplitl [V1011]; · iexact V1011
      isplitl [V1020]; · iexact V1020
      isplitl [V1021]; · iexact V1021
      isplitl [V0100]; · iexact V0100
      isplitl [V0101]; · iexact V0101
      isplitl [V0110]; · iexact V0110
      isplitl [V0111]; · iexact V0111
      isplitl [V0120]; · iexact V0120
      isplitl [V0121]; · iexact V0121
      isplitl [V1100]; · iexact V1100
      isplitl [V1101]; · iexact V1101
      isplitl [V1110]; · iexact V1110
      isplitl [V1111]; · iexact V1111
      isplitl [V1120]; · iexact V1120
      isplitl [V1121]; · iexact V1121
      isplitl [VX00]; · iexact VX00
      isplitl [VX01]; · iexact VX01
      isplitl [VX02]; · iexact VX02
      isplitl [VX10]; · iexact VX10
      isplitl [VX11]; · iexact VX11
      iexact VX12
    isplitl [S000 S001 S010 S011 S020 S021 S030 S031]
    · iapply (comm_join false c)
      isplitl [S000]; · iapply (slab_any false 0 0 c _); iexact S000
      isplitl [S001]; · iapply (slab_any false 0 1 c _); iexact S001
      isplitl [S010]; · iapply (slab_any false 1 0 c _); iexact S010
      isplitl [S011]; · iapply (slab_any false 1 1 c _); iexact S011
      isplitl [S020]; · iapply (slab_any false 2 0 c _); iexact S020
      isplitl [S021]; · iapply (slab_any false 2 1 c _); iexact S021
      isplitl [S030]; · iapply (slab_any false 3 0 c _); iexact S030
      iapply (slab_any false 3 1 c _); iexact S031
    isplitl [S100 S101 S110 S111 S120 S121 S130 S131]
    · iapply (comm_join true c)
      isplitl [S100]; · iapply (slab_any true 0 0 c _); iexact S100
      isplitl [S101]; · iapply (slab_any true 0 1 c _); iexact S101
      isplitl [S110]; · iapply (slab_any true 1 0 c _); iexact S110
      isplitl [S111]; · iapply (slab_any true 1 1 c _); iexact S111
      isplitl [S120]; · iapply (slab_any true 2 0 c _); iexact S120
      isplitl [S121]; · iapply (slab_any true 2 1 c _); iexact S121
      isplitl [S130]; · iapply (slab_any true 3 0 c _); iexact S130
      iapply (slab_any true 3 1 c _); iexact S131
    isplitl [A0 A1 A2]
    · iexists (mval m ρ c)
      iapply (a_join c (mval m ρ c))
      isplitl [A0]; · iexact A0
      isplitl [A1]; · iexact A1
      iexact A2
    iapply (max_join c)
    isplitl [M0]; · iexact M0
    isplitl [M1]; · iapply (mslot_any 1 c _); iexact M1
    isplitl [M2]; · iapply (mslot_any 2 c _); iexact M2
    iapply (mslot_any 3 c _); iexact M3
  isplitl [HO]
  · unfold Dat.owesAt Pipeline.owesWithin owesE
    icases HO with ⟨%W', HO⟩
    iexists W'
    isplitr; · ipureintro; exact fun _ _ => Or.inl trivial
    iexact HO
  isplitl [Hx]
  · iexists _; isplitr; · (ipureintro; rfl)
    iapply (of_held c cc0_stg0_0 _); iexact Hx
  isplitl [Hw]
  · iexists _; isplitr; · (ipureintro; rfl)
    iapply (of_held c cc0_stg1_0 _); iexact Hw
  iexists _; isplitr; · (ipureintro; rfl)
  iapply (of_held c cc0_stg2_0 _); iexact Ho

set_option maxRecDepth 10000 in
/-- The body's triple, as the pipeline asks for it. -/
theorem body_obligation (c : Dev nD) : BodyObligation (dats (F := F) m ρ 0 c) (defs₀ (F := F)) 𝒱₀ () Set.univ := fun t => by
  rw [fin_N0 t]
  rw [bigSep_W0, bigSep_W0]
  simp only [owns_held]
  show bodyPre m ρ c ⊢ wpc c (cc0_body (F := F) xM (Memref.isWhole_whole _) wM (Memref.isWhole_whole _) oM (Memref.isWhole_whole _) (Memref.whole cc0_scratch0) (Memref.isWhole_whole _) (Memref.whole cc0_scratch1) (Memref.isWhole_whole _) aM (Memref.isWhole_whole _) rM (Memref.isWhole_whole _) cc0_scratch4 cc0_scratch5 cc0_scratch6 cc0_scratch7 cc0_scratch8 cc0_scratch9) (fun _ => bodyPost m ρ c)
  exact body_triple m ρ c

end Cert.RingProof

end
-- ==== Proof.Launch.lean ====
/-
# The launch and the run

The protocol's state as the launch founds it, and the run of the four devices from it.
-/
module

public import proofs.«01_k».proof.Proof.Oblig
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Kd → ℕ)

/-! ## The protocol's ghost state -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- A duty as the launch mints it: the device whose cell it is of, and which. -/
abbrev tokOf (x : Dev nD × (Kd ⊕ Bool)) : GSem nD τ sig × ℕ × Bool := (cell x.1 (tokK x.2), 0, tokB x.2)
theorem tokOf_injective : Function.Injective tokOf := by
  rintro ⟨c, j⟩ ⟨c', j'⟩ h
  have h1 : (c, tokK j) = (c', tokK j') := kcell_injective (congrArg Prod.fst h)
  have h2 : tokB j = tokB j' := congrArg (fun x => x.2.2) h
  have hc : c = c' := congrArg Prod.fst h1
  have hk : tokK j = tokK j' := congrArg Prod.snd h1
  subst hc
  rcases j with k | b <;> rcases j' with k' | b'
  · rw [Option.some.inj hk]
  · cases hk
  · cases hk
  · rw [show b = b' from h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of a device's own cells. -/
def toks (c : Dev nD) : sProp 𝕄 := bigSep Finset.univ fun j : Kd ⊕ Bool => dutyTok ER (cell c (tokK j)) 0 (tokB j)

/-- What the launch's element deals a device, -/
def G (c : Dev nD) : sProp 𝕄 :=
  iprop((bigSep Finset.univ fun k : Option Kd => roundState ER (Rd m ρ) (kcell (c, k)) 0)
    ∗ (bigSep Finset.univ fun k : Option Kd => iprop(atPos ER (kcell (c, k)) 0 ∅ 0 ∗ reached ER (kcell (c, k)) 0)) ∗ toks c)

/-- what everybody knows of the cells once they are opened, -/
def recs0 (K : Dev nD × Option Kd → ℕ) : sProp 𝕄 :=
  iprop(bigSep Finset.univ (fun ck => cellInv ER (Rd m ρ) (K ck) (kcell ck)) ∗ bigSep Finset.univ (fun ck => reached ER (kcell ck) 0))
instance recs0_persistent (K : Dev nD × Option Kd → ℕ) : Persistent (recs0 m ρ K) := by unfold recs0; infer_instance

/-- and what a device holds from there. -/
def G' (c : Dev nD) : sProp 𝕄 := iprop(∃ K, recs0 m ρ K ∗ linear c)

theorem fund_ring : BI.own (ER (initOf ringCells ringToks)) ⊢ (|==> bigSep Finset.univ (G m ρ) : sProp 𝕄) := by
  have hC (Φ : GSem nD τ sig → sProp 𝕄) : bigSep ringCells Φ = bigSep Finset.univ fun c : Dev nD => bigSep Finset.univ fun k : Option Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hs, Hr, Ha, Ht⟩
  imodintro
  ihave Hs := (Entails.of_eq (hC fun g => roundState ER (Rd m ρ) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold G; simp only [bigSep_sep']
  isplitl [Hs]; · iexact Hs
  isplitl [Ha Hr]
  · isplitl [Ha]; · iexact Ha
    iexact Hr
  iexact Ht

/-- The launch's own semaphores of the kernel, and the barrier's. -/
theorem ownSems0_eq (c : Dev nD) : (Pipeline.ownSems0 (Ix := Unit) (Name := ℕ) (U := UU) (Lvl := ℕ) (Val := Elt F) (τ := τ) osem c : sProp 𝕄)
    = bigSep Finset.univ fun k : Kd => semVal (cell c (some k)) 0 := rfl
theorem unscopedSems0_eq (c : Dev nD) : (unscopedSems0 c : sProp 𝕄) = semVal (cell c none) 0 := by
  unfold unscopedSems0; rw [bigSep_eq_bigSepL_of_eq [SemLoc.reg barS] (by decide) (by decide)]; rfl

theorem bigSep_option (Φ : Option Kd → sProp 𝕄) : iprop(Φ none ∗ bigSep Finset.univ fun k : Kd => Φ (some k)) ⊢ bigSep Finset.univ Φ := by
  rw [show (Finset.univ : Finset (Option Kd)) = insert none (Finset.univ.map ⟨some, Option.some_injective _⟩) by decide,
    bigSep_insert (by decide), bigSep_map]
  exact Entails.of_eq rfl

theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : Option Kd => semVal (kcell (c, k)) 0 : sProp 𝕄) := by
  rw [ownSems0_eq, unscopedSems0_eq]
  iintro ⟨HS, HB⟩
  iapply (bigSep_option (F := F) fun k => semVal (kcell (c, k)) 0)
  isplitl [HB]; · iexact HB
  iexact HS

/-- A device's cells opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  have halloc : iprop((bigSep Finset.univ fun k : Option Kd => semVal (kcell (c, k)) 0) ∗ bigSep Finset.univ fun k : Option Kd => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (sems0_cells (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

theorem tokTo_injective (j : Kd ⊕ Bool) : Function.Injective (tokTo j) := by revert j; decide
/-- Who holds a duty's token against whose duty it is. -/
def around : Dev nD × (Kd ⊕ Bool) ≃ Dev nD × (Kd ⊕ Bool) :=
  Equiv.ofBijective (fun x => (tokTo x.2 x.1, x.2)) (Finite.injective_iff_bijective.mp (by
    rintro ⟨c, j⟩ ⟨c', j'⟩ h
    have hj : j = j' := congrArg Prod.snd h
    subst hj
    have hc : c = c' := tokTo_injective j (congrArg Prod.fst h)
    rw [hc]))

/-- The tokens dealt around the ring, to the devices that pay. -/
theorem toks_around : (bigSep Finset.univ fun c : Dev nD => (toks c : sProp 𝕄)) ⊢ bigSep Finset.univ fun c : Dev nD => payToks c := by
  have h1 : (bigSep Finset.univ fun c : Dev nD => (toks c : sProp 𝕄))
      = bigSep Finset.univ fun x : Dev nD × (Kd ⊕ Bool) => dutyTok ER (cell x.1 (tokK x.2)) 0 (tokB x.2) := by
    rw [bigSep_univ_prod]; rfl
  have h2 : (bigSep Finset.univ fun c : Dev nD => (payToks c : sProp 𝕄))
      = bigSep Finset.univ fun x : Dev nD × (Kd ⊕ Bool) => dutyTok ER (cell (tokTo x.2 x.1) (tokK x.2)) 0 (tokB x.2) := by
    rw [bigSep_univ_prod]; rfl
  rw [h1, h2, bigSep_univ_equiv around (fun x : Dev nD × (Kd ⊕ Bool) => (dutyTok ER (cell x.1 (tokK x.2)) 0 (tokB x.2) : sProp 𝕄))]
  exact Entails.of_eq rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option Kd => iprop(∃ κ : ℕ, cellInv ER (Rd m ρ) κ (kcell ck))),
    bigSep_congr (s := Finset.univ) (fun (c : Dev nD) _ => bigSep_sep' Finset.univ (fun k : Option Kd => (atPos ER (kcell (c, k)) 0 ∅ 0 : sProp 𝕄)) (fun k => reached ER (kcell (c, k)) 0)),
    bigSep_sep', ← bigSep_univ_prod (fun ck : Dev nD × Option Kd => (reached ER (kcell ck) 0 : sProp 𝕄))]
  iintro ⟨HI, ⟨Hat, #HR⟩, Htok⟩
  ihave HK := (BI.bigSep_exists_pi Finset.univ (fun (ck : Dev nD × Option Kd) (κ : ℕ) => (cellInv ER (Rd m ρ) κ (kcell ck) : sProp 𝕄))) $$ HI
  icases HK with ⟨%K, #HI⟩
  ihave Htk := (toks_around (F := F)) $$ Htok
  iapply (with_persistent (R := recs0 m ρ K) (Φ := fun c => linear c) fun c _ => show _ ⊢ G' m ρ c by
    unfold G'; iintro ⟨#H1, H2⟩; iexists K; isplitr; · iexact H1
    iexact H2)
  isplitr
  · unfold recs0; isplitl; · iexact HI
    iexact HR
  · iapply (Entails.of_eq (bigSep_sep' Finset.univ (fun c : Dev nD => bigSep Finset.univ fun k : Option Kd => (atPos ER (kcell (c, k)) 0 ∅ 0 : sProp 𝕄)) payToks).symm)
    isplitl [Hat]; · iexact Hat
    iexact Htk

/-- Every device's semaphores and dealt state, made the protocol's. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- Who makes a payment to a device. -/
def Pay.frm : Pay → Dev nD → Dev nD
  | .bar b, c => if b then nxt c else prv c
  | .hop d _ _, c => source d c
  | .mx o, c => sh (3 - o.val) c
theorem Pay.to_frm (p : Pay) (c : Dev nD) : p.to (p.frm c) = c := by
  rcases p with b | ⟨d, s, t⟩ | o
  · revert b c; decide
  · exact target_source d c
  · revert o c; decide
theorem Pay.frm_to (p : Pay) (c : Dev nD) : p.frm (p.to c) = c := by
  rcases p with b | ⟨d, s, t⟩ | o
  · revert b c; decide
  · exact source_target d c
  · revert o c; decide

theorem cell_eq_iff {a b : Dev nD} {k k' : Option Kd} : Iff (cell a k = cell b k') (a = b ∧ k = k') :=
  ⟨fun h => Prod.mk.inj (kcell_injective (a₁ := (a, k)) (a₂ := (b, k')) h), fun h => by rw [h.1, h.2]⟩

/-- All that is owed on a cell is what the payments to its kind add up to. -/
theorem owe_sum (c : Dev nD) (k : Option Kd) (l : List Pay) :
    (∑ d : Dev nD, owe d l (cell c k) ()) = (l.map fun p => if p.kd = k then p.amt else 0).sum := by
  induction l with
  | nil => exact Finset.sum_eq_zero fun _ _ => rfl
  | cons p l ih =>
    rw [List.map_cons, List.sum_cons, ← ih, add_comm]
    rw [show (∑ d : Dev nD, owe d (p :: l) (cell c k) ()) = ∑ d : Dev nD, (owe d l (cell c k) () + tallyAt (p.cell d) () p.amt (cell c k) ()) from rfl,
      Finset.sum_add_distrib]
    congr 1
    rw [Finset.sum_eq_single (p.frm c)]
    · rw [tallyAt_apply, show p.cell (p.frm c) = cell c p.kd from congrArg (fun d => cell d p.kd) (p.to_frm c)]
      exact if_congr ⟨fun h => (cell_eq_iff.mp h.1).2.symm, fun h => ⟨cell_eq_iff.mpr ⟨rfl, h.symm⟩, rfl⟩⟩ rfl rfl
    · intro d _ hd
      rw [tallyAt_apply]
      exact if_neg fun h => hd ((p.frm_to d).symm.trans (congrArg p.frm (cell_eq_iff.mp h.1).1.symm))
    · intro h; exact absurd (Finset.mem_univ _) h

theorem launch_amt (c : Dev nD) (k : Option Kd) (h : (payList.map fun p => if p.kd = k then p.amt else 0).sum = amtK k) :
    tallyOn (cell c k) (launchCredit (Pipeline.owing O₀) 0 (cell c k)) = (tallyAt (cell c k) () (amtK k) : CellTallies nD τ sig Unit) := by
  unfold tallyAt; refine congrArg _ (Finsupp.ext fun u => ?_); cases u
  rw [Pipeline.launchCredit_owing, Finsupp.single_eq_same]
  exact (owe_sum c k payList).trans h

theorem recvL_amt (k : Option Kd) (h : k ∈ recvL) : (payList.map fun p => if p.kd = k then p.amt else 0).sum = amtK k := by
  unfold recvL at h
  simp only [List.mem_cons, List.not_mem_nil, or_false] at h
  rcases h with rfl | rfl | rfl | rfl | rfl | rfl | rfl | rfl | rfl | rfl | rfl | rfl | rfl | rfl | rfl | rfl <;> simp [payList, Pay.kd, Pay.amt, amtK, kamt]

theorem creds_intro (c : Dev nD) : (Pipeline.launchCred O₀ c : sProp 𝕄) ⊢ creds c := by
  have h1 : (Pipeline.launchCred O₀ c : sProp 𝕄) ⊢ bigSep (recvL.toFinset.map ⟨locOf, locOf_inj⟩)
      fun sm : SemLoc sig => cred (tallyOn ((c.tc : Thread nD τ), sm) (launchCredit (Pipeline.owing O₀) 0 ((c.tc : Thread nD τ), sm))) :=
    bigSep_subset (Finset.subset_univ _)
  have h2 : (bigSep recvL.toFinset fun k => cred (tallyOn (cell c k) (launchCredit (Pipeline.owing O₀) 0 (cell c k))) : sProp 𝕄) = creds c := by
    rw [bigSep_congr (s := recvL.toFinset) (fun k hk => by rw [launch_amt c k (recvL_amt k (List.mem_toFinset.mp hk))])]
    rw [bigSep_eq_bigSepL_of_eq recvL rfl (by decide)]
    rfl
  rw [bigSep_map] at h1
  exact h1.trans (Entails.of_eq h2)

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' recs0
  iintro ⟨-, #Hlev, Hcr, -, ⟨%K, ⟨#HI, #HR⟩, HL⟩⟩
  ihave Hc := (creds_intro (F := F) c) $$ Hcr
  imodintro
  isplitl
  · isplitr
    · iexists K; unfold recs
      isplitr; · iexact HI
      isplitr; · iexact HR
      iexact Hlev
    isplitl [HL]; · iexact HL
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  exact Entails.of_eq rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ payList (by fin_cases w <;> fin_cases s <;> decide)
    · show _ ⊢ MayWait _ _ _ 0
      rw [MayWait_zero]; iintro -; iempintro

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution of the four devices' program ends, and ends with the
    windows' arrays at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Final.lean ====
module

public import proofs.«01_k».proof.Proof.Launch
public import Idealize.ShloMosaic.Lib.Pipeline.Value

/-! The result array after the run. -/

@[expose] public section

noncomputable section

namespace Cert.RingProof

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The result's block begins at the array's beginning. -/
theorem out_index (t : Fin cfg0.N) : (fun a => win0_2.index t a * main_v1.ty.shape.size a) = fun _ => 0 := by
  have h : t = t0_0 := by revert t; decide
  subst h
  exact funext fun a => by fin_cases a <;> decide

/-- The result's one block is the whole array, written back with what the body left. -/
theorem finalA_o (c : Dev nD) : finalA m ρ c (2 : Fin 3) = outAt m ρ c :=
  (dats (F := F) m ρ 0 c).arrAt_eq_of_cover (2 : Fin 3) (outAt m ρ c)
    (fun t _ => (Memref.read_access_unit_zero (Elt F) main_v1 (out_index t) (fun a => by rw [congrFun (out_index t) a]; simp) (outAt m ρ c)).symm)
    fun i => ⟨t0_0, flush0_2 t0_0, by
      show i ∈ ((View.whole main_v1).slice (win0_2.rect t0_0)).set
      rw [View.set_slice_whole, Rect.mem_set_unit]
      intro a
      have ho : win0_2.index t0_0 a * win0_2.size a = 0 := congrFun (out_index t0_0) a
      refine ⟨by show win0_2.index t0_0 a * win0_2.size a ≤ (i a).val; omega, ?_⟩
      show (i a).val < win0_2.index t0_0 a * win0_2.size a + main_v1.ty.shape.size a
      have hi : (i a).val < main_v1.ty.shape.size a := (i a).isLt
      omega⟩

end Cert.RingProof

end
-- ==== Proof.Quant.lean ====
module

public import Idealize.ShloMosaic.PureOps.Ideal

/-! Rounding to 127 steps either way, over the extended reals: by a product with a reciprocal, and by a quotient. -/

@[expose] public section

noncomputable section

namespace Cert.Quant

open Idealize.ShloMosaic

/-- The constants of the quantisation, and the one a maximum starts from. -/
theorem ofBits_127 : Ideal.ofBits .f32 0x42FE0000#32 = ((127 : ℝ) : EReal) := by
  simp [Ideal.ofBits, Ideal.ieee, -EReal.coe_mul]; norm_num
theorem ofBits_bot : Ideal.ofBits .f32 0xFF800000#32 = ⊥ := by
  simp [Ideal.ofBits, Ideal.ieee]

/-- What is done to a rounded quotient `q` where the largest absolute value is `A`. -/
def close (q A : EReal) : EReal :=
  min (Ideal.ofBits .f32 0x42FE0000#32)
      (max (Ideal.ofBits .f32 0xC2FE0000#32) (Ideal.liftRound Ideal.roundHalfEven q))
    * Ideal.div A (Ideal.ofBits .f32 0x42FE0000#32)

/-- The product with the reciprocal of the scale and the quotient by the scale end at the same number, wherever the entry
    lies between zero and the largest absolute value. -/
theorem close_eq (y A : EReal) (h0 : 0 ≤ y) (hA : y ≤ A) :
    close (y * Ideal.div (Ideal.ofBits .f32 0x42FE0000#32) A) A
      = close (Ideal.div y (Ideal.div A (Ideal.ofBits .f32 0x42FE0000#32))) A := by
  unfold close
  rw [ofBits_127]
  have h127 : ((127 : ℝ) : EReal) ≠ 0 := by norm_num
  have hd : ∀ x : EReal, Ideal.div x ((127 : ℝ) : EReal) = x * ((127 : ℝ) : EReal)⁻¹ := fun x => if_neg h127
  rcases eq_or_ne A 0 with rfl | hne
  · rw [hd, zero_mul, mul_zero, mul_zero]
  have hq : ∀ x : EReal, Ideal.div x A = x * A⁻¹ := fun x => if_neg hne
  refine congrArg (fun q => min ((127 : ℝ) : EReal) (max _ (Ideal.liftRound Ideal.roundHalfEven q)) * _) ?_
  rw [hd, hq]
  induction A with
  | bot => exact absurd (le_trans h0 hA) (by simp)
  | top =>
    have ht : (⊤ : EReal) * ((127 : ℝ) : EReal)⁻¹ = ⊤ := by
      rw [← EReal.coe_inv]; exact EReal.top_mul_coe_of_pos (by norm_num)
    rw [ht, show Ideal.div y ⊤ = y * (⊤ : EReal)⁻¹ from if_neg hne, EReal.inv_top, mul_zero, mul_zero]
  | coe a =>
    induction y with
    | bot => exact absurd h0 (by simp)
    | top => exact absurd hA (by simp)
    | coe b =>
      have ha : a ≠ 0 := fun h => hne (by rw [h]; rfl)
      rw [← EReal.coe_inv, ← EReal.coe_inv, ← EReal.coe_mul, ← EReal.coe_mul, ← EReal.coe_mul]
      have hs : ((a * (127 : ℝ)⁻¹ : ℝ) : EReal) ≠ 0 := by
        rw [Ne, EReal.coe_eq_zero]; positivity
      rw [show Ideal.div (b : EReal) ((a * (127 : ℝ)⁻¹ : ℝ) : EReal) = b * ((a * (127 : ℝ)⁻¹ : ℝ) : EReal)⁻¹ from if_neg hs,
        ← EReal.coe_inv, ← EReal.coe_mul]
      congr 1
      field_simp

end Cert.Quant

end
-- ==== Proof.Value.lean ====
module

public import proofs.«01_k».proof.Proof.Proto
public import proofs.«01_k».proof.Proof.Quant
public import Idealize.ShloMosaic.Lib.Pointwise

/-! The values the kernel computes, entry by entry, in exact arithmetic. -/

@[expose] public section

set_option maxRecDepth 16384

noncomputable section

namespace Cert.RingProof

open Idealize.ShloMosaic Cert.KernelIdeal Cert.KernelIdeal.Gen
open scoped BigOperators

variable (m : (ℓ : Loc nD τ sig) → Buf (Elt Ideal) ℓ) (ρ : Dev nD → PrngReg)

/-- Row `i` of row block `b` of the first operand. -/
def row (b : Dev nD) (i : Fin 1024) : Fin 4096 := ⟨1024 * b.val + i.val, by have : b.val < 4 := b.isLt; omega⟩

/-- The device's operands, as staged. -/
def xs (c : Dev nD) : FVec Ideal S4096x1024 .bf16 := xstg m ρ c
def ws (c : Dev nD) : FVec Ideal S1024x2048 .bf16 := wstg m ρ c

/-- An entry of a device's product of its column block of the first operand and its row block of the second. -/
def P (c : Dev nD) (r : Fin 4096) (n : Fin 2048) : EReal := ∑ k : Fin 1024, xs m ρ c (ix2 r k) * ws m ρ c (ix2 k n)

/-- Where the row blocks a device reads begin: -/
theorem off1_val (c : Dev nD) : k0_off1 c = ![1024 * ((c.val + 3) % 4), 0] := by revert c; decide
/-- of the devices one and two places on -/
theorem off2_val (c : Dev nD) : k0_off2 c 1#32 = ![1024 * ((c.val + 1) % 4), 0] ∧ k0_off2 c 2#32 = ![1024 * ((c.val + 2) % 4), 0] := by revert c; decide
/-- and of the device itself. -/
theorem off3_val (c : Dev nD) : k0_off3 c = ![1024 * c.val, 0] := by revert c; decide

/-- A block of rows of the first operand, read at an entry, -/
theorem x_rect (c : Dev nD) (off : Fin 2 → ℕ) (h : ∀ a, off a + S1024x1024.size a ≤ S4096x1024.size a) (b : Dev nD)
    (hb : off = ![1024 * b.val, 0]) (i k : Fin 1024) :
    xM.view.readAt (Elt Ideal) (Rect.unit (s := S4096x1024) off S1024x1024.size h).toLoadRect (xstg m ρ c) (ix2 i k)
      = xs m ρ c (ix2 (row b i) k) := by
  subst hb
  show xs m ρ c _ = _
  refine congrArg _ (funext fun a => Fin.ext ?_)
  match a with
  | ⟨0, _⟩ => show 1024 * b.val + 1 * i.val = 1024 * b.val + i.val; omega
  | ⟨1, _⟩ => show 0 + 1 * k.val = k.val; omega

/-- and a block of columns of the second. -/
theorem w_rect (c : Dev nD) (n o : ℕ) (h : ∀ a, (![0, o] : Fin 2 → ℕ) a + (![1024, n] : Fin 2 → ℕ) a ≤ S1024x2048.size a)
    (k : Fin 1024) (j : Fin n) (j' : Fin 2048) (hj : j'.val = o + j.val) :
    wM.view.readAt (Elt Ideal) (Rect.unit (s := S1024x2048) ![0, o] ![1024, n] h).toLoadRect (wstg m ρ c) (ix2 k j)
      = ws m ρ c (ix2 k j') := by
  show ws m ρ c _ = _
  refine congrArg _ (funext fun a => Fin.ext ?_)
  match a with
  | ⟨0, _⟩ => show 0 + 1 * k.val = k.val; omega
  | ⟨1, _⟩ => show o + 1 * j.val = j'.val; omega

/-- The four row blocks, read at an entry. -/
theorem xA_apply (c : Dev nD) (i k : Fin 1024) : xA m ρ c (ix2 i k) = xs m ρ c (ix2 (row (sh 3 c) i) k) :=
  x_rect m ρ c _ _ (sh 3 c) (off1_val c) i k
theorem xB_apply (c : Dev nD) (i k : Fin 1024) : xB m ρ c (ix2 i k) = xs m ρ c (ix2 (row (sh 1 c) i) k) :=
  x_rect m ρ c _ _ (sh 1 c) (off2_val c).1 i k
theorem xC_apply (c : Dev nD) (i k : Fin 1024) : xC m ρ c (ix2 i k) = xs m ρ c (ix2 (row (sh 2 c) i) k) :=
  x_rect m ρ c _ _ (sh 2 c) (off2_val c).2 i k
theorem xD_apply (c : Dev nD) (i k : Fin 1024) : xD m ρ c (ix2 i k) = xs m ρ c (ix2 (row c i) k) :=
  x_rect m ρ c _ _ c (off3_val c) i k

/-- The staged operands are the device's arguments. -/
theorem xs_eq (c : Dev nD) : xs m ρ c = m (c.tc.loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) _
theorem ws_eq (c : Dev nD) : ws m ρ c = m (c.tc.loc main_arg1) := by
  have hz : (fun a => win0_1.index t0_0 a * main_arg1.ty.shape.size a) = fun _ => 0 := funext fun a => by fin_cases a <;> decide
  exact Memref.read_access_unit_zero (Elt Ideal) main_arg1 hz (fun a => by rw [congrFun hz a]; simp) _

/-! ## Products and hops -/

/-- The column a tile's column is, of direction `d`. -/
def hcol (d : Bool) (t : Fin 2) (j : Fin 512) : Fin 2048 :=
  ⟨(if d then 1024 else 0) + 512 * t.val + j.val, by cases d <;> simp <;> omega⟩
/-- A column of one half. -/
def half (d : Bool) (j : Fin 1024) : Fin 2048 := ⟨(if d then 1024 else 0) + j.val, by cases d <;> simp <;> omega⟩

/-- The products of whole row blocks, at an entry: rows of the chunk two places on, -/
theorem p1_apply (c : Dev nD) (i : Fin 1024) (n : Fin 2048) : p1 m ρ c (ix2 i n) = P m ρ c (row (sh 2 c) i) n := by
  unfold p1 P
  pointwise [k0_pay6]
  exact Finset.sum_congr rfl fun k _ => by rw [xC_apply]; exact congrArg _ (w_rect m ρ c 2048 0 _ k n n (by omega))
/-- of the device's own, -/
theorem pown_apply (c : Dev nD) (i : Fin 1024) (n : Fin 2048) : pown m ρ c (ix2 i n) = P m ρ c (row c i) n := by
  unfold pown P
  pointwise [k0_pay17]
  exact Finset.sum_congr rfl fun k _ => by rw [xD_apply]; exact congrArg _ (w_rect m ρ c 2048 0 _ k n n (by omega))
/-- of the next one, its left columns, -/
theorem p2a_apply (c : Dev nD) (i : Fin 1024) (j : Fin 1024) : p2a m ρ c (ix2 i j) = P m ρ c (row (sh 1 c) i) (half false j) := by
  unfold p2a P
  pointwise [k0_pay11]
  exact Finset.sum_congr rfl fun k _ => by rw [xB_apply]; exact congrArg _ (w_rect m ρ c 1024 0 _ k j _ rfl)
/-- and of the one before, its right columns. -/
theorem p2b_apply (c : Dev nD) (i : Fin 1024) (j : Fin 1024) : p2b m ρ c (ix2 i j) = P m ρ c (row (sh 3 c) i) (half true j) := by
  unfold p2b P
  pointwise [k0_pay12]
  exact Finset.sum_congr rfl fun k _ => by rw [xA_apply]; exact congrArg _ (w_rect m ρ c 1024 1024 _ k j _ rfl)

/-- The row block a device works on at a hop, by direction. -/
def blk (d : Bool) (s : Fin 3) (c : Dev nD) : Dev nD :=
  match d, s with
  | false, 0 => sh 3 c | false, 1 => sh 2 c | false, 2 => sh 1 c
  | true, 0 => sh 1 c | true, 1 => sh 2 c | true, 2 => sh 3 c

/-- What is sent at the first hop, -/
theorem val0_apply (c : Dev nD) (d : Bool) (t : Fin 2) (i : Fin 1024) (j : Fin 512) :
    val0 m ρ c d t (ix3 0 i j) = P m ρ c (row (blk d 0 c) i) (hcol d t j) := by
  unfold P
  match d, t with
  | false, 0 =>
    show k0_pay1 _ _ _ = _
    pointwise [k0_pay1]
    exact Finset.sum_congr rfl fun k _ => by rw [xA_apply]; exact congrArg _ (w_rect m ρ c 512 0 _ k j _ rfl)
  | false, 1 =>
    show k0_pay3 _ _ _ = _
    pointwise [k0_pay3]
    exact Finset.sum_congr rfl fun k _ => by rw [xA_apply]; exact congrArg _ (w_rect m ρ c 512 512 _ k j _ rfl)
  | true, 0 =>
    show k0_pay2 _ _ _ = _
    pointwise [k0_pay2]
    exact Finset.sum_congr rfl fun k _ => by rw [xB_apply]; exact congrArg _ (w_rect m ρ c 512 1024 _ k j _ rfl)
  | true, 1 =>
    show k0_pay5 (k0_pay4 _ _) _ = _
    pointwise [k0_pay5, k0_pay4]
    exact Finset.sum_congr rfl fun k _ => by rw [xB_apply]; exact congrArg _ (w_rect m ρ c 512 1536 _ k j _ rfl)

/-- at the second: what was received and the device's own product of the same rows, -/
theorem val1_apply (c : Dev nD) (v : Vec Ideal S1x1024x512 .bf16) (d : Bool) (t : Fin 2) (i : Fin 1024) (j : Fin 512) :
    val1 m ρ c v d t (ix3 0 i j) = (v (ix3 0 i j) + P m ρ c (row (blk d 1 c) i) (hcol d t j) : EReal) := by
  match d, t with
  | false, 0 => show k0_pay7 _ _ _ = _; pointwise [k0_pay7]; exact congrArg _ ((congrArg _ (congrArg _ (Fin.ext (by simp [hcol])))).trans (p1_apply m ρ c i _))
  | false, 1 => show k0_pay9 _ _ _ = _; pointwise [k0_pay9]; exact congrArg _ ((congrArg _ (congrArg _ (Fin.ext (by simp [hcol])))).trans (p1_apply m ρ c i _))
  | true, 0 => show k0_pay8 _ _ _ = _; pointwise [k0_pay8]; exact congrArg _ ((congrArg _ (congrArg _ (Fin.ext (by simp [hcol])))).trans (p1_apply m ρ c i _))
  | true, 1 => show k0_pay10 _ _ _ = _; pointwise [k0_pay10]; exact congrArg _ ((congrArg _ (congrArg _ (Fin.ext (by simp [hcol]; omega)))).trans (p1_apply m ρ c i _))

/-- and so at the third. -/
theorem val2_apply (c : Dev nD) (v : Vec Ideal S1x1024x512 .bf16) (d : Bool) (t : Fin 2) (i : Fin 1024) (j : Fin 512) :
    val2 m ρ c v d t (ix3 0 i j) = (v (ix3 0 i j) + P m ρ c (row (blk d 2 c) i) (hcol d t j) : EReal) := by
  match d, t with
  | false, 0 => show k0_pay13 _ _ _ = _; pointwise [k0_pay13]; exact congrArg _ ((p2a_apply m ρ c i _).trans (congrArg _ (Fin.ext (by simp [hcol, half]))))
  | false, 1 => show k0_pay15 _ _ _ = _; pointwise [k0_pay15]; exact congrArg _ ((p2a_apply m ρ c i _).trans (congrArg _ (Fin.ext (by simp [hcol, half]))))
  | true, 0 => show k0_pay14 _ _ _ = _; pointwise [k0_pay14]; exact congrArg _ ((p2b_apply m ρ c i _).trans (congrArg _ (Fin.ext (by simp [hcol, half]))))
  | true, 1 => show k0_pay16 _ _ _ = _; pointwise [k0_pay16]; exact congrArg _ ((p2b_apply m ρ c i _).trans (congrArg _ (Fin.ext (by simp [hcol, half]; omega))))

/-! ## The sum over the ring -/

/-- Whoever's tile lands on a device at the end has worked on that device's rows, and so have those before it. -/
theorem blk_source (d : Bool) (c : Dev nD) :
    blk d 2 (source d c) = c ∧ blk d 1 (source d (source d c)) = c ∧ blk d 0 (source d (source d (source d c))) = c := by
  revert d c; decide

/-- What lands at the last hop: the three other devices' products of the device's own rows. -/
theorem land_apply (d : Bool) (t : Fin 2) (c : Dev nD) (i : Fin 1024) (j : Fin 512) :
    landVal m ρ d 2 t c (ix3 0 i j)
      = (P m ρ (source d (source d (source d c))) (row c i) (hcol d t j) + P m ρ (source d (source d c)) (row c i) (hcol d t j)
          + P m ρ (source d c) (row c i) (hcol d t j) : EReal) := by
  obtain ⟨h2, h1, h0⟩ := blk_source d c
  show val2 m ρ _ _ d t _ = _
  rw [val2_apply, val1_apply, val0_apply, h2, h1, h0]

/-- Three steps back and the device itself are all the devices. -/
theorem ring_sum (d : Bool) (c : Dev nD) (f : Dev nD → EReal) :
    f (source d (source d (source d c))) + f (source d (source d c)) + f (source d c) + f c = ∑ s : Dev nD, f s := by
  have hu : (Finset.univ : Finset (Dev nD)) = {source d (source d (source d c)), source d (source d c), source d c, c} := by
    revert d c; decide
  have h1 : source d (source d (source d c)) ∉ ({source d (source d c), source d c, c} : Finset (Dev nD)) := by revert d c; decide
  have h2 : source d (source d c) ∉ ({source d c, c} : Finset (Dev nD)) := by revert d c; decide
  have h3 : source d c ∉ ({c} : Finset (Dev nD)) := by revert d c; decide
  rw [hu, Finset.sum_insert h1, Finset.sum_insert h2, Finset.sum_insert h3, Finset.sum_singleton]
  simp only [add_assoc]

/-- An entry of the whole product: row `i` of the device's chunk. -/
def T (c : Dev nD) (i : Fin 1024) (n : Fin 2048) : EReal := ∑ s : Dev nD, P m ρ s (row c i) n

/-- A slot's entry in its first tile, -/
theorem both_lo (X0 X1 : Vec Ideal S1x1024x512 .bf16) (i j : Fin 1024) (h : j.val < 512) :
    both X0 X1 (ix3 0 i j) = X0 (ix3 0 i ⟨j.val, h⟩) :=
  (dif_pos (show ((ix3 (0 : Fin 1) i j : S1x1024x1024.Idx) 2).val < 512 from h)).trans
    (congrArg X0 (funext fun a => by match a with | 0 => rfl | 1 => rfl | 2 => rfl))
/-- and in its second. -/
theorem both_hi (X0 X1 : Vec Ideal S1x1024x512 .bf16) (i j : Fin 1024) (h : ¬ j.val < 512) :
    both X0 X1 (ix3 0 i j) = X1 (ix3 0 i ⟨j.val - 512, by omega⟩) :=
  (dif_neg (show ¬ ((ix3 (0 : Fin 1) i j : S1x1024x1024.Idx) 2).val < 512 from h)).trans
    (congrArg X1 (funext fun a => by match a with | 0 => rfl | 1 => rfl | 2 => rfl))

/-- What has landed and the device's own product make the whole product. -/
theorem total_apply (d : Bool) (c : Dev nD) (i j : Fin 1024) :
    (landBoth m ρ d c (ix3 0 i j) + pown m ρ c (ix2 i (half d j)) : EReal) = T m ρ c i (half d j) := by
  rw [pown_apply]
  unfold landBoth T
  rw [← ring_sum d c fun s => P m ρ s (row c i) (half d j)]
  refine congrArg (· + P m ρ c (row c i) (half d j)) ?_
  by_cases h : j.val < 512
  · rw [both_lo _ _ _ _ h, land_apply, show hcol d 0 ⟨j.val, h⟩ = half d j from Fin.ext (by simp [hcol, half])]
  · rw [both_hi _ _ _ _ h, land_apply, show hcol d 1 ⟨j.val - 512, by omega⟩ = half d j from Fin.ext (by simp [hcol, half]; omega)]

/-- The rectified entry. -/
def Y (c : Dev nD) (i : Fin 1024) (n : Fin 2048) : EReal := max (T m ρ c i n) 0

/-- The left half before quantisation, and the right one, are the rectified entries. -/
theorem ya_apply (c : Dev nD) (i j : Fin 1024) : ya m ρ c (ix2 i j) = Y m ρ c i (half false j) := by
  unfold ya Y
  rw [← total_apply]
  pointwise [k0_pay18]
  exact congrArg (fun n => max (landBoth m ρ false c (ix3 0 i j) + pown m ρ c (ix2 i n) : EReal) 0) (Fin.ext (by simp [half]))
theorem yb_apply (c : Dev nD) (i j : Fin 1024) : yb m ρ c (ix2 i j) = Y m ρ c i (half true j) := by
  unfold yb Y
  rw [← total_apply]
  pointwise [k0_pay19]
  exact congrArg (fun n => max (landBoth m ρ true c (ix3 0 i j) + pown m ρ c (ix2 i n) : EReal) 0) (Fin.ext (by simp [half]))

/-- Every column is in one half or the other. -/
theorem forall_half {p : Fin 2048 → Prop} : (∀ n, p n) ↔ (∀ j, p (half false j)) ∧ ∀ j, p (half true j) := by
  refine ⟨fun h => ⟨fun j => h _, fun j => h _⟩, fun ⟨hl, hr⟩ n => ?_⟩
  by_cases hn : n.val < 1024
  · rw [show n = half false ⟨n.val, hn⟩ from Fin.ext (by simp [half])]; exact hl _
  · rw [show n = half true ⟨n.val - 1024, by omega⟩ from Fin.ext (by simp [half]; omega)]; exact hr _

/-- The device's maximum is the least bound of its entries. -/
theorem mloc_le (c : Dev nD) (B : EReal) : (mloc m ρ c : EReal) ≤ B ↔ ∀ i n, Y m ρ c i n ≤ B := by
  have hL : ∀ x : Fin 1024 × Fin 1024, k0_pay18 (pown m ρ c) (landBoth m ρ false c) (ix2 x.1 x.2) = Y m ρ c x.1 (half false x.2) :=
    fun x => ya_apply m ρ c x.1 x.2
  have hR : ∀ x : Fin 1024 × Fin 1024, k0_pay19 (pown m ρ c) (landBoth m ρ true c) (ix2 x.1 x.2) = Y m ρ c x.1 (half true x.2) :=
    fun x => yb_apply m ρ c x.1 x.2
  unfold mloc
  pointwise [k0_pay20]
  simp only [hL, hR]
  rw [max_le_iff, Finset.fold_max_le, Finset.fold_max_le, Quant.ofBits_bot]
  refine ⟨fun ⟨⟨_, hl⟩, _, hr⟩ i => forall_half.2 ⟨fun j => hl (i, j) (Finset.mem_univ _), fun j => hr (i, j) (Finset.mem_univ _)⟩,
    fun h => ⟨⟨bot_le, fun x _ => h _ _⟩, bot_le, fun x _ => h _ _⟩⟩

end Cert.RingProof

end
-- ==== Proof.ValueOut.lean ====
module

public import proofs.«01_k».proof.Proof.Value

/-! The largest entry of all, and the quantised result. -/

@[expose] public section

set_option maxRecDepth 16384

noncomputable section

namespace Cert.RingProof

open Idealize.ShloMosaic Cert.KernelIdeal Cert.KernelIdeal.Gen
open scoped BigOperators

/-- A block that holds a maximum holds it everywhere, -/
theorem pay21_apply (p : FVec Ideal S1024x2048 .f32) (u v : Vec Ideal S1x1024x1024 .bf16) (j : S8x128.Idx) :
    k0_pay21 p u v j = k0_pay20 p u v := by
  unfold k0_pay21
  exact (congrFun (shapeCast_self _ _) j).trans (ValueIdx.broadcast_apply (s := S8x128) _ _)

/-- so at the corner. -/
theorem corner_apply (X : Vec Ideal S8x128 .f32) (z : EReal) (h : ∀ j, X j = z) : corner X (ix3 0 0 0) = z := h _

/-- The maximum of four numbers as it is taken: one's own and the one before, the one across, the one after. -/
theorem max_apply (z : EReal) (a b d : Vec Ideal S1x1x1 .f32) :
    k0_pay24 (F := Ideal) (k0_pay22 z a) (k0_pay23 b) d = max (max z (a (ix3 0 0 0))) (max (b (ix3 0 0 0)) (d (ix3 0 0 0))) := by
  pointwise [k0_pay24, k0_pay22, k0_pay23]

/-- The quantisation of a half, at an entry: of the left one -/
theorem pay27_apply (y : FVec Ideal S1024x1024 .f32) (a b : EReal) (d : Vec Ideal S1x1x1 .f32) (i j : Fin 1024) :
    k0_pay27 (F := Ideal) y a b d (ix2 i j)
      = Quant.close (y (ix2 i j) * Ideal.div (Ideal.ofBits .f32 0x42FE0000#32) (k0_pay24 (F := Ideal) a b d)) (k0_pay24 (F := Ideal) a b d) := by
  unfold k0_pay27 k0_pay26 k0_pay25 Quant.close
  generalize k0_pay24 (F := Ideal) a b d = A
  pointwise
/-- and of the right one. -/
theorem pay28_apply (y : FVec Ideal S1024x1024 .f32) (a b : EReal) (d : Vec Ideal S1x1x1 .f32) (i j : Fin 1024) :
    k0_pay28 (F := Ideal) y a b d (ix2 i j)
      = Quant.close (y (ix2 i j) * Ideal.div (Ideal.ofBits .f32 0x42FE0000#32) (k0_pay24 (F := Ideal) a b d)) (k0_pay24 (F := Ideal) a b d) := by
  unfold k0_pay28 k0_pay26 k0_pay25 Quant.close
  generalize k0_pay24 (F := Ideal) a b d = A
  pointwise

variable (m : (ℓ : Loc nD τ sig) → Buf (Elt Ideal) ℓ) (ρ : Dev nD → PrngReg)

/-- The corner of a device's block of its maximum holds that maximum. -/
theorem corner_mval (c : Dev nD) : corner (mval m ρ c) (ix3 0 0 0) = mloc m ρ c :=
  corner_apply _ _ fun j => pay21_apply _ _ _ j

/-- The devices are the device itself and those three, two and one places on. -/
theorem dev_cases (c s : Dev nD) : s = c ∨ s = sh 3 c ∨ s = sh 2 c ∨ s = sh 1 c := by revert c s; decide

/-- The maximum over all the devices, as device `c` computes it: -/
def top (c : Dev nD) : EReal := k0_pay24 (F := Ideal) (mA m ρ c) (mB m ρ c) (corner (mval m ρ (sh 1 c)))

/-- the least bound of all the entries. -/
theorem top_le (c : Dev nD) (B : EReal) : top m ρ c ≤ B ↔ ∀ s i n, Y m ρ s i n ≤ B := by
  have ht : top m ρ c = max (max (mloc m ρ c : EReal) (mloc m ρ (sh 3 c))) (max (mloc m ρ (sh 2 c) : EReal) (mloc m ρ (sh 1 c))) := by
    rw [← corner_mval m ρ (sh 3 c), ← corner_mval m ρ (sh 2 c), ← corner_mval m ρ (sh 1 c)]
    unfold top mA mB
    exact max_apply _ _ _ _
  rw [ht, max_le_iff, max_le_iff, max_le_iff, mloc_le, mloc_le, mloc_le, mloc_le]
  refine ⟨fun ⟨⟨h0, h3⟩, h2, h1⟩ s => ?_, fun h => ⟨⟨h _, h _⟩, h _, h _⟩⟩
  rcases dev_cases c s with rfl | rfl | rfl | rfl
  exacts [h0, h3, h2, h1]

/-- The quantised entry, as the kernel computes it. -/
theorem outL_apply (c : Dev nD) (i j : Fin 1024) : outL m ρ c (ix2 i j)
    = Quant.close (Y m ρ c i (half false j) * Ideal.div (Ideal.ofBits .f32 0x42FE0000#32) (top m ρ c)) (top m ρ c) := by
  rw [← ya_apply]
  exact pay27_apply _ _ _ _ _ _
theorem outR_apply (c : Dev nD) (i j : Fin 1024) : outR m ρ c (ix2 i j)
    = Quant.close (Y m ρ c i (half true j) * Ideal.div (Ideal.ofBits .f32 0x42FE0000#32) (top m ρ c)) (top m ρ c) := by
  rw [← yb_apply]
  exact pay28_apply _ _ _ _ _ _

/-- An entry of the device's result: the quantisation of its rectified entry by the largest of all. -/
theorem outAt_apply (c : Dev nD) (i : Fin 1024) (n : Fin 2048) : (outAt m ρ c : FVec Ideal S1024x2048 .f32) (ix2 i n)
    = Quant.close (Ideal.div (Y m ρ c i n) (Ideal.div (top m ρ c) (Ideal.ofBits .f32 0x42FE0000#32))) (top m ρ c) := by
  have h0 : 0 ≤ Y m ρ c i n := le_max_right _ _
  rw [← Quant.close_eq _ _ h0 ((top_le m ρ c _).1 le_rfl c i n)]
  by_cases hn : n.val < 1024
  · refine Eq.trans (b := outL m ρ c (ix2 i ⟨n.val, hn⟩)) ?_ ?_
    · exact (dif_pos (show ((ix2 i n : S1024x2048.Idx) 1).val < 1024 from hn)).trans
        (congrArg _ (funext fun a => by match a with | 0 => rfl | 1 => rfl))
    · rw [outL_apply, show half false ⟨n.val, hn⟩ = n from Fin.ext (by simp [half])]
  · refine Eq.trans (b := outR m ρ c (ix2 i ⟨n.val - 1024, by omega⟩)) ?_ ?_
    · exact (dif_neg (show ¬ ((ix2 i n : S1024x2048.Idx) 1).val < 1024 from hn)).trans
        (congrArg _ (funext fun a => by match a with | 0 => rfl | 1 => rfl))
    · rw [outR_apply, show half true ⟨n.val - 1024, by omega⟩ = n from Fin.ext (by simp [half]; omega)]

end Cert.RingProof

end
-- ==== Proof.ValueRef.lean ====
module

public import proofs.«01_k».proof.Proof.Gen.ReferenceIdeal
public import proofs.«01_k».proof.Proof.Quant
public import Idealize.ShloMosaic.Lib.Pointwise

/-! The reference's result, entry by entry, in exact arithmetic. -/

@[expose] public section

set_option maxRecDepth 16384

noncomputable section

namespace Cert.RefValue

open Idealize.ShloMosaic Cert.ReferenceIdeal Cert.ReferenceIdeal.Gen
open scoped BigOperators

variable (X : FVec Ideal S4096x4096 .bf16) (W : FVec Ideal S4096x2048 .bf16)

/-- The rectified product, -/
def rect : FVec Ideal S4096x2048 .f32 :=
  maximumf (Host.dotGeneral dot_S4096x4096_S4096x2048_S4096x2048_1_0_0_1_n_n none (extf .f32 X bitsLt_bf16_f32) (extf .f32 W bitsLt_bf16_f32))
    (broadcastInDim S4096x2048 ![] bcast_S_S4096x2048 (constant S_ .f32 0x00000000#32))
/-- its largest absolute value, -/
def amax (Y : FVec Ideal S4096x2048 .f32) : FVec Ideal S_ .f32 :=
  Host.reduce FloatOps.maximumf (Host.absf Y) (constant S_ .f32 0xFF800000#32) reducesTo_S4096x2048_S_d0_1 h_S_
/-- and an array quantised, given that value. -/
def quant (Y : FVec Ideal S4096x2048 .f32) (A : FVec Ideal S_ .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf Y (broadcastInDim S4096x2048 ![] bcast_S_S4096x2048 (Host.divf A (constant S_ .f32 0x42FE0000#32)))))))
    (broadcastInDim S4096x2048 ![] bcast_S_S4096x2048 (Host.divf A (constant S_ .f32 0x42FE0000#32)))

/-- An entry of the rectified product is the sum over the 4096 inner positions, or zero. -/
theorem rect_apply (r : Fin 4096) (n : Fin 2048) :
    rect X W (ix2 r n) = max (∑ k : Fin 4096, X (ix2 r k) * W (ix2 k n) : EReal) 0 := by
  pointwise [rect]

theorem quant_apply (Y : FVec Ideal S4096x2048 .f32) (A : FVec Ideal S_ .f32) (r : Fin 4096) (n : Fin 2048) :
    quant Y A (ix2 r n) = Quant.close (Ideal.div (Y (ix2 r n)) (Ideal.div (A ix0) (Ideal.ofBits .f32 0x42FE0000#32))) (A ix0) := by
  unfold Quant.close
  pointwise [quant, id_eq]

/-- Of an array with no entry below zero the largest absolute value is the least bound. -/
theorem amax_le (Y : FVec Ideal S4096x2048 .f32) (h0 : ∀ r n, (0 : EReal) ≤ Y (ix2 r n)) (B : EReal) :
    amax Y ix0 ≤ B ↔ ∀ r n, Y (ix2 r n) ≤ B := by
  have ha : ∀ r n, max (Y (ix2 r n) : EReal) (-(Y (ix2 r n))) = Y (ix2 r n) := fun r n =>
    max_eq_left (le_trans (EReal.neg_le_zero.2 (h0 r n)) (h0 r n))
  pointwise [amax]
  simp only [show ∀ k : Fin 4096 × Fin 2048, FloatOps.absf (Y (ix2 k.1 k.2)) = Y (ix2 k.1 k.2) from fun k => ha k.1 k.2]
  rw [Finset.fold_max_le, Quant.ofBits_bot]
  simp only [Finset.mem_univ, true_implies, bot_le, true_and, Prod.forall]

end Cert.RefValue

end
-- ==== Proof.ValueTie.lean ====
module

public import proofs.«01_k».proof.Proof.ValueOut
public import proofs.«01_k».proof.Proof.ValueRef
public import Idealize.ShloMosaic.Lib.Layout

/-! The devices' results are the row blocks of the reference's. -/

@[expose] public section

noncomputable section

namespace Cert.RingProof

open Idealize.ShloMosaic Cert.KernelIdeal Cert.KernelIdeal.Gen
open scoped BigOperators

/-- Position `k` of device `s`'s part of the inner axis. -/
def inner (s : Dev nD) (k : Fin 1024) : Fin 4096 := ⟨s.val * 1024 + k.val, by have : s.val < 4 := s.isLt; omega⟩

/-- A sum over the inner axis is the sum of the devices' sums. -/
theorem sum_inner (f : Fin 4096 → EReal) : ∑ s : Dev nD, ∑ k : Fin 1024, f (inner s k) = ∑ k : Fin 4096, f k := by
  rw [← Fintype.sum_prod_type' (f := fun (s : Dev nD) (k : Fin 1024) => f (inner s k))]
  exact Fintype.sum_equiv (finProdFinEquiv (m := 4) (n := 1024)) _ _ fun p =>
    congrArg f (Fin.ext (by show p.1.val * 1024 + p.2.val = p.2.val + 1024 * p.1.val; omega))

variable (m : (ℓ : Loc nD τ sig) → Buf (Elt Ideal) ℓ) (ρ : Dev nD → PrngReg)
variable (X : FVec Ideal ⟨2, ![4096, 4096]⟩ .bf16) (W : FVec Ideal ⟨2, ![4096, 2048]⟩ .bf16)

/-- The devices hold the column blocks of `X` and the row blocks of `W`. -/
def Holds : Prop := ∀ c : Dev nD, m (c.tc.loc main_arg0) = Layout.block ⟨2, ![4096, 1024]⟩ ⟨2, ![4096, 4096]⟩ 1 4 c X
  ∧ m (c.tc.loc main_arg1) = Layout.block ⟨2, ![1024, 2048]⟩ ⟨2, ![4096, 2048]⟩ 0 4 c W

variable {m X W}

/-- The operands a device has staged are entries of `X` and of `W`. -/
theorem xs_apply (h : Holds m X W) (s : Dev nD) (r : Fin 4096) (k : Fin 1024) : xs m ρ s (ix2 r k) = X (ix2 r (inner s k)) := by
  rw [xs_eq, (h s).1]
  exact congrArg X (funext fun a => Fin.ext (by match a with | ⟨0, _⟩ => rfl | ⟨1, _⟩ => rfl))
theorem ws_apply (h : Holds m X W) (s : Dev nD) (k : Fin 1024) (n : Fin 2048) : ws m ρ s (ix2 k n) = W (ix2 (inner s k) n) := by
  rw [ws_eq, (h s).2]
  exact congrArg W (funext fun a => Fin.ext (by match a with | ⟨0, _⟩ => rfl | ⟨1, _⟩ => rfl))

/-- A rectified entry of the device's chunk is the reference's, in the device's row block. -/
theorem Y_eq (h : Holds m X W) (c : Dev nD) (i : Fin 1024) (n : Fin 2048) : Y m ρ c i n = RefValue.rect X W (ix2 (row c i) n) := by
  rw [RefValue.rect_apply, ← sum_inner]
  unfold Y T P
  simp only [xs_apply ρ h, ws_apply ρ h]

/-- Every row is a row of some row block. -/
theorem exists_row (r : Fin 4096) : ∃ c i, r = row c i :=
  ⟨⟨r.val / 1024, by show _ < 4; omega⟩, ⟨r.val % 1024, by omega⟩, Fin.ext (by show r.val = 1024 * (r.val / 1024) + r.val % 1024; omega)⟩

/-- The largest entry is the reference's largest absolute value. -/
theorem top_eq (h : Holds m X W) (c : Dev nD) : top m ρ c = RefValue.amax (RefValue.rect X W) ix0 := by
  refine eq_of_forall_ge_iff fun B => ?_
  rw [top_le, RefValue.amax_le _ fun r n => by rw [RefValue.rect_apply]; exact le_max_right _ _]
  simp only [Y_eq ρ h]
  refine ⟨fun hb r n => ?_, fun hb s i n => hb _ _⟩
  obtain ⟨s, i, rfl⟩ := exists_row r
  exact hb s i n

/-- The device's result is its row block of the reference's. -/
theorem outAt_eq (h : Holds m X W) (c : Dev nD) : outAt m ρ c
    = Layout.block ⟨2, ![1024, 2048]⟩ ⟨2, ![4096, 2048]⟩ 0 4 c (RefValue.quant (RefValue.rect X W) (RefValue.amax (RefValue.rect X W))) := by
  funext j
  obtain ⟨i, n, rfl⟩ : ∃ (i : Fin 1024) (n : Fin 2048), j = ix2 i n := ⟨j 0, j 1, eq_ix2 j⟩
  refine (outAt_apply m ρ c i n).trans ?_
  rw [top_eq ρ h, Y_eq ρ h, ← RefValue.quant_apply]
  exact congrArg (RefValue.quant _ _) (funext fun a => Fin.ext (by
    match a with
    | ⟨0, _⟩ => show 1024 * c.val + i.val = c.val * 1024 + i.val; omega
    | ⟨1, _⟩ => rfl))

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Final
public import proofs.«01_k».proof.Proof.ValueTie
public import Idealize.ShloMosaic.Adequacy
public import Idealize.ShloMosaic.Init

@[expose] public section

noncomputable section

namespace Cert.Proof

open Idealize.ShloMosaic Idealize.SL.Sem Cert.Kernel

/-- The run keeps the arguments and ends with every counter at zero, for any float values: -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.RingProof.finalA_x m ρ c), (h.1 c (1 : Fin 3)).trans (Cert.RingProof.finalA_w m ρ c)⟩, h.2⟩)
    (Cert.RingProof.run_main (F := F) m ρ)

set_option maxRecDepth 20000 in
/-- The two programs' body tables are one: their text is. -/
theorem bodies_eq : Cert.Kernel.defs₀ (F := Bits) = Cert.KernelIdeal.defs₀ (F := Bits) := by
  unfold Cert.Kernel.defs₀ Cert.KernelIdeal.defs₀
  refine congrArg Defs.onTc ?_
  funext x y
  rcases x with ⟨_ | n, h⟩
  · rfl
  · exact absurd h (Nat.not_lt.2 (Nat.le_add_left _ _))

set_option maxRecDepth 20000 in
/-- on the chip's, the two programs having one text, -/
theorem frame_kernel : Cert.quiescent_Kernel := fun m ρ _ => by
  have h := frame_any (F := Bits) m ρ
  unfold Cert.KernelIdeal.defs at h
  rw [← bodies_eq] at h
  exact h

/-- and in exact arithmetic. -/
theorem frame_kernelIdeal : Cert.quiescent_KernelIdeal := fun m ρ _ => frame_any (F := Ideal) m ρ

/-- The reference is host operations one after another, on no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The program in exact arithmetic is the program's own text. -/
theorem preserves : Cert.preserves_Kernel_KernelIdeal := trivial

/-- From operands that are the devices' blocks of the reference's, each device ends with its row block of the reference's
    result, over the extended reals. -/
theorem algebraic : Cert.algebraic_KernelIdeal_ReferenceIdeal := fun m g m' g' _ h =>
  ⟨RefValue.quant
      (RefValue.rect (m' ((0 : Dev Cert.ReferenceIdeal.nD).tc.loc Cert.ReferenceIdeal.main_arg0)) (m' ((0 : Dev Cert.ReferenceIdeal.nD).tc.loc Cert.ReferenceIdeal.main_arg1)))
      (RefValue.amax (RefValue.rect (m' ((0 : Dev Cert.ReferenceIdeal.nD).tc.loc Cert.ReferenceIdeal.main_arg0)) (m' ((0 : Dev Cert.ReferenceIdeal.nD).tc.loc Cert.ReferenceIdeal.main_arg1)))),
    (θ_run Cert.KernelIdeal.defs _ _).mono
      (fun _ hr c => ⟨((hr.1 c (2 : Fin 3)).trans (Cert.RingProof.finalA_o m g c)).trans (Cert.RingProof.outAt_eq g h c),
        (hr.1 c (0 : Fin 3)).trans (Cert.RingProof.finalA_x m g c), (hr.1 c (1 : Fin 3)).trans (Cert.RingProof.finalA_w m g c)⟩)
      (Cert.RingProof.run_main (F := Ideal) m g),
    (θ_run Cert.ReferenceIdeal.defs _ _).mono (fun _ hr => hr 0) (Cert.ReferenceIdeal.Value.run (F := Ideal) m' g')⟩

/-- All that is claimed. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
